-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S32 : Shape := ⟨1, ![32]⟩
abbrev S_ : Shape := ⟨0, ![]⟩
abbrev S128x2048 : Shape := ⟨2, ![128, 2048]⟩
abbrev S128x32x64 : Shape := ⟨3, ![128, 32, 64]⟩
abbrev S1x128x64 : Shape := ⟨3, ![1, 128, 64]⟩
abbrev S128x64 : Shape := ⟨2, ![128, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S128x4096, .bf16⟩
  | .hbm, ⟨1, _⟩ => ⟨S4096x2048, .bf16⟩
  | .hbm, ⟨2, _⟩ => ⟨S4096x64, .bf16⟩
  | .local _ .vmem, ⟨0, _⟩ => ⟨S128x4096, .bf16⟩
  | .local _ .vmem, ⟨1, _⟩ => ⟨S4096x2048, .bf16⟩
  | .local _ .vmem, ⟨2, _⟩ => ⟨S4096x64, .bf16⟩
  | .local _ .vmem, ⟨3, _⟩ => ⟨S32x128x64, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v139 : Index := Scalar.indexCast v2
  let c0_131 : Index := 0#32
  let c0_132 : Index := 0#32
  ![v139.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v142 : BitVec 32 := Scalar.muli v2 c128_i32
  let v143 : Index := Scalar.indexCast v142
  let c0_133 : Index := 0#32
  ![v143.toNat, 0]
def k0_off3 (d0 : Dev nD) (c1_i32_134 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v145 : BitVec 32 := Scalar.addi v2 c1_i32_134
  let c32_i32_135 : BitVec 32 := 32#32
  let v146 : BitVec 32 := Scalar.remsi v145 c32_i32_135
  ![v146.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_136 : BitVec 32 := 128#32
  let v147 : BitVec 32 := Scalar.muli v2 c128_i32_136
  let c0_i32_139 : BitVec 32 := 0#32
  ![v147.toNat, 0]
def k0_off6 (d0 : Dev nD) (c1_i32_134 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v145 : BitVec 32 := Scalar.addi v2 c1_i32_134
  let c32_i32_135 : BitVec 32 := 32#32
  let v146 : BitVec 32 := Scalar.remsi v145 c32_i32_135
  let c0_i32_140 : BitVec 32 := 0#32
  let c0_i32_141 : BitVec 32 := 0#32
  ![v146.toNat, 0, 0]
def k0_dev32 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_134 : BitVec 32 := 1#32
  let v145 : BitVec 32 := Scalar.addi v2 c1_i32_134
  let c32_i32_135 : BitVec 32 := 32#32
  let v146 : BitVec 32 := Scalar.remsi v145 c32_i32_135
  let c1_i32_137 : BitVec 32 := 1#32
  let v148 : BitVec 32 := Scalar.muli v146 c1_i32_137
  let v149 : BitVec 32 := Scalar.addi c0_i32_138 v148
  v149.toNat
def k0_dev33 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_142 : BitVec 32 := 2#32
  let v157 : BitVec 32 := Scalar.addi v2 c2_i32_142
  let c32_i32_143 : BitVec 32 := 32#32
  let v158 : BitVec 32 := Scalar.remsi v157 c32_i32_143
  let c1_i32_145 : BitVec 32 := 1#32
  let v160 : BitVec 32 := Scalar.muli v158 c1_i32_145
  let v161 : BitVec 32 := Scalar.addi c0_i32_146 v160
  v161.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_150 : BitVec 32 := 3#32
  let v169 : BitVec 32 := Scalar.addi v2 c3_i32_150
  let c32_i32_151 : BitVec 32 := 32#32
  let v170 : BitVec 32 := Scalar.remsi v169 c32_i32_151
  let c1_i32_153 : BitVec 32 := 1#32
  let v172 : BitVec 32 := Scalar.muli v170 c1_i32_153
  let v173 : BitVec 32 := Scalar.addi c0_i32_154 v172
  v173.toNat
def k0_dev35 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_158 : BitVec 32 := 4#32
  let v181 : BitVec 32 := Scalar.addi v2 c4_i32_158
  let c32_i32_159 : BitVec 32 := 32#32
  let v182 : BitVec 32 := Scalar.remsi v181 c32_i32_159
  let c1_i32_161 : BitVec 32 := 1#32
  let v184 : BitVec 32 := Scalar.muli v182 c1_i32_161
  let v185 : BitVec 32 := Scalar.addi c0_i32_162 v184
  v185.toNat
def k0_dev36 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_166 : BitVec 32 := 5#32
  let v193 : BitVec 32 := Scalar.addi v2 c5_i32_166
  let c32_i32_167 : BitVec 32 := 32#32
  let v194 : BitVec 32 := Scalar.remsi v193 c32_i32_167
  let c1_i32_169 : BitVec 32 := 1#32
  let v196 : BitVec 32 := Scalar.muli v194 c1_i32_169
  let v197 : BitVec 32 := Scalar.addi c0_i32_170 v196
  v197.toNat
def k0_dev37 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_174 : BitVec 32 := 6#32
  let v205 : BitVec 32 := Scalar.addi v2 c6_i32_174
  let c32_i32_175 : BitVec 32 := 32#32
  let v206 : BitVec 32 := Scalar.remsi v205 c32_i32_175
  let c1_i32_177 : BitVec 32 := 1#32
  let v208 : BitVec 32 := Scalar.muli v206 c1_i32_177
  let v209 : BitVec 32 := Scalar.addi c0_i32_178 v208
  v209.toNat
def k0_dev38 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_182 : BitVec 32 := 7#32
  let v217 : BitVec 32 := Scalar.addi v2 c7_i32_182
  let c32_i32_183 : BitVec 32 := 32#32
  let v218 : BitVec 32 := Scalar.remsi v217 c32_i32_183
  let c1_i32_185 : BitVec 32 := 1#32
  let v220 : BitVec 32 := Scalar.muli v218 c1_i32_185
  let v221 : BitVec 32 := Scalar.addi c0_i32_186 v220
  v221.toNat
def k0_dev39 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_190 : BitVec 32 := 8#32
  let v229 : BitVec 32 := Scalar.addi v2 c8_i32_190
  let c32_i32_191 : BitVec 32 := 32#32
  let v230 : BitVec 32 := Scalar.remsi v229 c32_i32_191
  let c1_i32_193 : BitVec 32 := 1#32
  let v232 : BitVec 32 := Scalar.muli v230 c1_i32_193
  let v233 : BitVec 32 := Scalar.addi c0_i32_194 v232
  v233.toNat
def k0_dev40 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_198 : BitVec 32 := 9#32
  let v241 : BitVec 32 := Scalar.addi v2 c9_i32_198
  let c32_i32_199 : BitVec 32 := 32#32
  let v242 : BitVec 32 := Scalar.remsi v241 c32_i32_199
  let c1_i32_201 : BitVec 32 := 1#32
  let v244 : BitVec 32 := Scalar.muli v242 c1_i32_201
  let v245 : BitVec 32 := Scalar.addi c0_i32_202 v244
  v245.toNat
def k0_dev41 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_206 : BitVec 32 := 10#32
  let v253 : BitVec 32 := Scalar.addi v2 c10_i32_206
  let c32_i32_207 : BitVec 32 := 32#32
  let v254 : BitVec 32 := Scalar.remsi v253 c32_i32_207
  let c1_i32_209 : BitVec 32 := 1#32
  let v256 : BitVec 32 := Scalar.muli v254 c1_i32_209
  let v257 : BitVec 32 := Scalar.addi c0_i32_210 v256
  v257.toNat
def k0_dev42 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_214 : BitVec 32 := 11#32
  let v265 : BitVec 32 := Scalar.addi v2 c11_i32_214
  let c32_i32_215 : BitVec 32 := 32#32
  let v266 : BitVec 32 := Scalar.remsi v265 c32_i32_215
  let c1_i32_217 : BitVec 32 := 1#32
  let v268 : BitVec 32 := Scalar.muli v266 c1_i32_217
  let v269 : BitVec 32 := Scalar.addi c0_i32_218 v268
  v269.toNat
def k0_dev43 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_222 : BitVec 32 := 12#32
  let v277 : BitVec 32 := Scalar.addi v2 c12_i32_222
  let c32_i32_223 : BitVec 32 := 32#32
  let v278 : BitVec 32 := Scalar.remsi v277 c32_i32_223
  let c1_i32_225 : BitVec 32 := 1#32
  let v280 : BitVec 32 := Scalar.muli v278 c1_i32_225
  let v281 : BitVec 32 := Scalar.addi c0_i32_226 v280
  v281.toNat
def k0_dev44 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_230 : BitVec 32 := 13#32
  let v289 : BitVec 32 := Scalar.addi v2 c13_i32_230
  let c32_i32_231 : BitVec 32 := 32#32
  let v290 : BitVec 32 := Scalar.remsi v289 c32_i32_231
  let c1_i32_233 : BitVec 32 := 1#32
  let v292 : BitVec 32 := Scalar.muli v290 c1_i32_233
  let v293 : BitVec 32 := Scalar.addi c0_i32_234 v292
  v293.toNat
def k0_dev45 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_238 : BitVec 32 := 14#32
  let v301 : BitVec 32 := Scalar.addi v2 c14_i32_238
  let c32_i32_239 : BitVec 32 := 32#32
  let v302 : BitVec 32 := Scalar.remsi v301 c32_i32_239
  let c1_i32_241 : BitVec 32 := 1#32
  let v304 : BitVec 32 := Scalar.muli v302 c1_i32_241
  let v305 : BitVec 32 := Scalar.addi c0_i32_242 v304
  v305.toNat
def k0_dev46 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_246 : BitVec 32 := 15#32
  let v313 : BitVec 32 := Scalar.addi v2 c15_i32_246
  let c32_i32_247 : BitVec 32 := 32#32
  let v314 : BitVec 32 := Scalar.remsi v313 c32_i32_247
  let c1_i32_249 : BitVec 32 := 1#32
  let v316 : BitVec 32 := Scalar.muli v314 c1_i32_249
  let v317 : BitVec 32 := Scalar.addi c0_i32_250 v316
  v317.toNat
def k0_dev47 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_254 : BitVec 32 := 16#32
  let v325 : BitVec 32 := Scalar.addi v2 c16_i32_254
  let c32_i32_255 : BitVec 32 := 32#32
  let v326 : BitVec 32 := Scalar.remsi v325 c32_i32_255
  let c1_i32_257 : BitVec 32 := 1#32
  let v328 : BitVec 32 := Scalar.muli v326 c1_i32_257
  let v329 : BitVec 32 := Scalar.addi c0_i32_258 v328
  v329.toNat
def k0_dev48 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_262 : BitVec 32 := 17#32
  let v337 : BitVec 32 := Scalar.addi v2 c17_i32_262
  let c32_i32_263 : BitVec 32 := 32#32
  let v338 : BitVec 32 := Scalar.remsi v337 c32_i32_263
  let c1_i32_265 : BitVec 32 := 1#32
  let v340 : BitVec 32 := Scalar.muli v338 c1_i32_265
  let v341 : BitVec 32 := Scalar.addi c0_i32_266 v340
  v341.toNat
def k0_dev49 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_270 : BitVec 32 := 18#32
  let v349 : BitVec 32 := Scalar.addi v2 c18_i32_270
  let c32_i32_271 : BitVec 32 := 32#32
  let v350 : BitVec 32 := Scalar.remsi v349 c32_i32_271
  let c1_i32_273 : BitVec 32 := 1#32
  let v352 : BitVec 32 := Scalar.muli v350 c1_i32_273
  let v353 : BitVec 32 := Scalar.addi c0_i32_274 v352
  v353.toNat
def k0_dev50 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_278 : BitVec 32 := 19#32
  let v361 : BitVec 32 := Scalar.addi v2 c19_i32_278
  let c32_i32_279 : BitVec 32 := 32#32
  let v362 : BitVec 32 := Scalar.remsi v361 c32_i32_279
  let c1_i32_281 : BitVec 32 := 1#32
  let v364 : BitVec 32 := Scalar.muli v362 c1_i32_281
  let v365 : BitVec 32 := Scalar.addi c0_i32_282 v364
  v365.toNat
def k0_dev51 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_286 : BitVec 32 := 20#32
  let v373 : BitVec 32 := Scalar.addi v2 c20_i32_286
  let c32_i32_287 : BitVec 32 := 32#32
  let v374 : BitVec 32 := Scalar.remsi v373 c32_i32_287
  let c1_i32_289 : BitVec 32 := 1#32
  let v376 : BitVec 32 := Scalar.muli v374 c1_i32_289
  let v377 : BitVec 32 := Scalar.addi c0_i32_290 v376
  v377.toNat
def k0_dev52 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_294 : BitVec 32 := 21#32
  let v385 : BitVec 32 := Scalar.addi v2 c21_i32_294
  let c32_i32_295 : BitVec 32 := 32#32
  let v386 : BitVec 32 := Scalar.remsi v385 c32_i32_295
  let c1_i32_297 : BitVec 32 := 1#32
  let v388 : BitVec 32 := Scalar.muli v386 c1_i32_297
  let v389 : BitVec 32 := Scalar.addi c0_i32_298 v388
  v389.toNat
def k0_dev53 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_302 : BitVec 32 := 22#32
  let v397 : BitVec 32 := Scalar.addi v2 c22_i32_302
  let c32_i32_303 : BitVec 32 := 32#32
  let v398 : BitVec 32 := Scalar.remsi v397 c32_i32_303
  let c1_i32_305 : BitVec 32 := 1#32
  let v400 : BitVec 32 := Scalar.muli v398 c1_i32_305
  let v401 : BitVec 32 := Scalar.addi c0_i32_306 v400
  v401.toNat
def k0_dev54 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_310 : BitVec 32 := 23#32
  let v409 : BitVec 32 := Scalar.addi v2 c23_i32_310
  let c32_i32_311 : BitVec 32 := 32#32
  let v410 : BitVec 32 := Scalar.remsi v409 c32_i32_311
  let c1_i32_313 : BitVec 32 := 1#32
  let v412 : BitVec 32 := Scalar.muli v410 c1_i32_313
  let v413 : BitVec 32 := Scalar.addi c0_i32_314 v412
  v413.toNat
def k0_dev55 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_318 : BitVec 32 := 24#32
  let v421 : BitVec 32 := Scalar.addi v2 c24_i32_318
  let c32_i32_319 : BitVec 32 := 32#32
  let v422 : BitVec 32 := Scalar.remsi v421 c32_i32_319
  let c1_i32_321 : BitVec 32 := 1#32
  let v424 : BitVec 32 := Scalar.muli v422 c1_i32_321
  let v425 : BitVec 32 := Scalar.addi c0_i32_322 v424
  v425.toNat
def k0_dev56 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_326 : BitVec 32 := 25#32
  let v433 : BitVec 32 := Scalar.addi v2 c25_i32_326
  let c32_i32_327 : BitVec 32 := 32#32
  let v434 : BitVec 32 := Scalar.remsi v433 c32_i32_327
  let c1_i32_329 : BitVec 32 := 1#32
  let v436 : BitVec 32 := Scalar.muli v434 c1_i32_329
  let v437 : BitVec 32 := Scalar.addi c0_i32_330 v436
  v437.toNat
def k0_dev57 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_334 : BitVec 32 := 26#32
  let v445 : BitVec 32 := Scalar.addi v2 c26_i32_334
  let c32_i32_335 : BitVec 32 := 32#32
  let v446 : BitVec 32 := Scalar.remsi v445 c32_i32_335
  let c1_i32_337 : BitVec 32 := 1#32
  let v448 : BitVec 32 := Scalar.muli v446 c1_i32_337
  let v449 : BitVec 32 := Scalar.addi c0_i32_338 v448
  v449.toNat
def k0_dev58 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_342 : BitVec 32 := 27#32
  let v457 : BitVec 32 := Scalar.addi v2 c27_i32_342
  let c32_i32_343 : BitVec 32 := 32#32
  let v458 : BitVec 32 := Scalar.remsi v457 c32_i32_343
  let c1_i32_345 : BitVec 32 := 1#32
  let v460 : BitVec 32 := Scalar.muli v458 c1_i32_345
  let v461 : BitVec 32 := Scalar.addi c0_i32_346 v460
  v461.toNat
def k0_dev59 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_350 : BitVec 32 := 28#32
  let v469 : BitVec 32 := Scalar.addi v2 c28_i32_350
  let c32_i32_351 : BitVec 32 := 32#32
  let v470 : BitVec 32 := Scalar.remsi v469 c32_i32_351
  let c1_i32_353 : BitVec 32 := 1#32
  let v472 : BitVec 32 := Scalar.muli v470 c1_i32_353
  let v473 : BitVec 32 := Scalar.addi c0_i32_354 v472
  v473.toNat
def k0_dev60 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_358 : BitVec 32 := 29#32
  let v481 : BitVec 32 := Scalar.addi v2 c29_i32_358
  let c32_i32_359 : BitVec 32 := 32#32
  let v482 : BitVec 32 := Scalar.remsi v481 c32_i32_359
  let c1_i32_361 : BitVec 32 := 1#32
  let v484 : BitVec 32 := Scalar.muli v482 c1_i32_361
  let v485 : BitVec 32 := Scalar.addi c0_i32_362 v484
  v485.toNat
def k0_dev61 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_366 : BitVec 32 := 30#32
  let v493 : BitVec 32 := Scalar.addi v2 c30_i32_366
  let c32_i32_367 : BitVec 32 := 32#32
  let v494 : BitVec 32 := Scalar.remsi v493 c32_i32_367
  let c1_i32_369 : BitVec 32 := 1#32
  let v496 : BitVec 32 := Scalar.muli v494 c1_i32_369
  let v497 : BitVec 32 := Scalar.addi c0_i32_370 v496
  v497.toNat
def k0_dev62 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_374 : BitVec 32 := 31#32
  let v505 : BitVec 32 := Scalar.addi v2 c31_i32_374
  let c32_i32_375 : BitVec 32 := 32#32
  let v506 : BitVec 32 := Scalar.remsi v505 c32_i32_375
  let c1_i32_377 : BitVec 32 := 1#32
  let v508 : BitVec 32 := Scalar.muli v506 c1_i32_377
  let v509 : BitVec 32 := Scalar.addi c0_i32_378 v508
  v509.toNat
def k0_off7 (d0 : Dev nD) (c1_i32_382 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v517 : BitVec 32 := Scalar.subi v2 c1_i32_382
  let c32_i32_383 : BitVec 32 := 32#32
  let v518 : BitVec 32 := Scalar.addi v517 c32_i32_383
  let c32_i32_384 : BitVec 32 := 32#32
  let v519 : BitVec 32 := Scalar.remsi v518 c32_i32_384
  ![v519.toNat]
def k0_off8 (d0 : Dev nD) (c1_i32_382 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v517 : BitVec 32 := Scalar.subi v2 c1_i32_382
  let c32_i32_383 : BitVec 32 := 32#32
  let v518 : BitVec 32 := Scalar.addi v517 c32_i32_383
  let c32_i32_384 : BitVec 32 := 32#32
  let v519 : BitVec 32 := Scalar.remsi v518 c32_i32_384
  let c128_i32_385 : BitVec 32 := 128#32
  let v520 : BitVec 32 := Scalar.muli v519 c128_i32_385
  let c0_i32_388 : BitVec 32 := 0#32
  ![v520.toNat, 0]
def k0_off9 (d0 : Dev nD) (c1_i32_382 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v517 : BitVec 32 := Scalar.subi v2 c1_i32_382
  let c32_i32_383 : BitVec 32 := 32#32
  let v518 : BitVec 32 := Scalar.addi v517 c32_i32_383
  let c32_i32_384 : BitVec 32 := 32#32
  let v519 : BitVec 32 := Scalar.remsi v518 c32_i32_384
  let c0_i32_389 : BitVec 32 := 0#32
  let c0_i32_390 : BitVec 32 := 0#32
  ![v519.toNat, 0, 0]
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.IdealSteps.lean ====
/-
# The kernel body as lists of steps

The body's unrolled stretches, thirty-one entry signals, thirty-one transfers, thirty-one receive waits and
thirty-one send waits, are each one step repeated over `Fin 31`. This module names the four steps and states the
body as these lists around the one barrier wait and the seven loads and stores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.A2A

open Cert.KernelIdeal Cert.KernelIdeal.Gen

open Idealize.ShloMosaic
open Idealize.ShloMosaic.TcCoe
open Idealize.SL Idealize.SL.Sem

variable {F : FTy → Type} [FloatOps F]

/-- The distances at which a device meets its peers, less one, in program order. -/
def dist : List (Fin 31) := [0, 1, 2, 3, 4, 5, 6, 7, 8, 9, 10, 11, 12, 13, 14, 15, 16, 17, 18, 19, 20, 21, 22, 23, 24, 25, 26, 27, 28, 29, 30]

theorem dist_nodup : dist.Nodup := by decide
theorem mem_dist (r : Fin 31) : r ∈ dist := by revert r; decide

/-- The device at distance `r + 1` after `d`. -/
def peer (d : Dev nD) (r : Fin 31) : Dev nD := ⟨(d.val + r.val + 1) % 32, Nat.mod_lt _ (by decide)⟩
/-- The device at distance `r + 1` before `d`. -/
def from' (d : Dev nD) (r : Fin 31) : Dev nD := ⟨((d.val + 31) - r.val) % 32, Nat.mod_lt _ (by decide)⟩

/-- The devices the entry signals name, in program order. -/
def sigDev (d : Dev nD) : Fin 31 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩]
/-- The devices the transfers name, in program order. -/
def sendDev (d : Dev nD) : Fin 31 → Dev nD :=
  ![⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩]

set_option maxRecDepth 8000 in
/-- The `r`-th entry signal names the device at distance `r + 1`. -/
theorem sigDev_eq : ∀ (d : Dev nD) (r : Fin 31), sigDev d r = peer d r := by decide +kernel
set_option maxRecDepth 8000 in
/-- The `r`-th transfer names the device at distance `r + 1`. -/
theorem sendDev_eq : ∀ (d : Dev nD) (r : Fin 31), sendDev d r = peer d r := by decide +kernel

/-! ## The memrefs -/

abbrev xM : Memref sig .tc .vmem S128x4096 .bf16 := Memref.whole cc0_stg0_0
abbrev wM : Memref sig .tc .vmem S4096x2048 .bf16 := Memref.whole cc0_stg1_0
abbrev oM : Memref sig .tc .vmem S4096x64 .bf16 := Memref.whole cc0_stg2_0
abbrev sM : Memref sig .tc .vmem S32x128x64 .bf16 := Memref.whole cc0_scratch0

/-- The word of distance `r + 1`, as the offsets take it. -/
abbrev word (r : Fin 31) : BitVec 32 := BitVec.ofNat 32 (1 + r.val)

/-- The barrier semaphore. -/
abbrev barS : Sem sig := (SemArray.scalar (sig.barrier 0 rfl) : Sems sig S_).sem
/-- The send semaphore of the block sent at distance `r + 1`. -/
abbrev sendS (d : Dev nD) (r : Fin 31) : DmaSems sig S_ :=
  (cc0_scratch1.slice (Rect.unit (s := S32) (k0_off3 d (word r)) S1.size (k0_off3_inb d r))).squeeze S_ squeezes_S1_S_
/-- The receive semaphore a device's own blocks land on, at every target. -/
abbrev landS (d : Dev nD) : DmaSems sig S_ :=
  (cc0_scratch2.slice (Rect.unit (s := S32) (k0_off4 d) S1.size (k0_off4_inb d))).squeeze S_ squeezes_S1_S_
/-- The receive semaphore of the block that comes from distance `r + 1` before. -/
abbrev recvS (d : Dev nD) (r : Fin 31) : DmaSems sig S_ :=
  (cc0_scratch2.slice (Rect.unit (s := S32) (k0_off7 d (word r)) S1.size (k0_off7_inb d r))).squeeze S_ squeezes_S1_S_
/-- The rows of a target's result that device `d`'s block lands on. -/
abbrev rowsM (d : Dev nD) : Memref sig .tc .vmem S128x64 .bf16 :=
  oM.slice (Rect.unit (s := S4096x64) (k0_off5 d) S128x64.size (k0_off5_inb d)) (fun _ => rfl)
/-- The rows of the result the receive wait at distance `r + 1` names. -/
abbrev rowsFromM (d : Dev nD) (r : Fin 31) : Memref sig .tc .vmem S128x64 .bf16 :=
  oM.slice (Rect.unit (s := S4096x64) (k0_off8 d (word r)) S128x64.size (k0_off8_inb d r)) (fun _ => rfl)
/-- The slot sent at distance `r + 1`. -/
abbrev slotM (d : Dev nD) (r : Fin 31) : Memref sig .tc .vmem S128x64 .bf16 :=
  (sM.slice (Rect.unit (s := S32x128x64) (k0_off6 d (word r)) S1x128x64.size (k0_off6_inb d r)) (fun _ => rfl)).squeeze S128x64 squeezes_S1x128x64_S128x64
/-- The slot the receive wait at distance `r + 1` names. -/
abbrev slotFromM (d : Dev nD) (r : Fin 31) : Memref sig .tc .vmem S128x64 .bf16 :=
  (sM.slice (Rect.unit (s := S32x128x64) (k0_off9 d (word r)) S1x128x64.size (k0_off9_inb d r)) (fun _ => rfl)).squeeze S128x64 squeezes_S1x128x64_S128x64

/-! ## The steps -/

abbrev Eff (F : FTy → Type) := TpuEff nD τ sig (Elt F) Λ₀ .tc

/-- The entry signal at distance `r + 1`. -/
abbrev eSig (d : Dev nD) (r : Fin 31) : Eff F PUnit := .semSignal (sigDev d r, .tc) barS (1#32 : BitVec 32).toInt
/-- The transfer at distance `r + 1`: the slot of the target, to the sender's rows of the target's result. -/
abbrev eSend (d : Dev nD) (r : Fin 31) : Eff F PUnit :=
  .enqueueDma (slotM d r) (.remote (Dev.tc (sendDev d r)) (rowsM d) (.dma (sendS d r).sem)) (.dma (landS d).sem)
    (((Memref.isWhole_whole cc0_scratch0).wordExact_slice rfl _ (k0_off6_wordsbf16 d r)).reshape _ _)
    ((Memref.isWhole_whole cc0_stg2_0).wordExact_slice rfl _ (k0_off5_wordsbf16 d)) ⟨⟨rfl, Or.inl rfl⟩, trivial⟩
/-- The wait for the block from distance `r + 1` before. -/
abbrev eRecv (d : Dev nD) (r : Fin 31) : Eff F PUnit :=
  .waitDma2 (recvS d r).sem (slotFromM d r) (rowsFromM d r)
    (((Memref.isWhole_whole cc0_scratch0).wordExact_slice rfl _ (k0_off9_wordsbf16 d r)).reshape _ _)
    ((Memref.isWhole_whole cc0_stg2_0).wordExact_slice rfl _ (k0_off8_wordsbf16 d r))
/-- The wait for the block sent at distance `r + 1` to have left. -/
abbrev eSent (d : Dev nD) (r : Fin 31) : Eff F PUnit :=
  .waitDma2 (sendS d r).sem (rowsM d) (slotM d r)
    ((Memref.isWhole_whole cc0_stg2_0).wordExact_slice rfl _ (k0_off5_wordsbf16 d))
    (((Memref.isWhole_whole cc0_scratch0).wordExact_slice rfl _ (k0_off6_wordsbf16 d r)).reshape _ _)

/-- The steps `e` at each distance of a list, then `k`. -/
def steps {α : Type} (e : Fin 31 → Eff F PUnit) : List (Fin 31) → Prog (Eff F) α → Prog (Eff F) α
  | [], k => k
  | r :: l, k => .op (e r) fun _ => steps e l k

abbrev rX : Rect S128x4096 := Rect.unit (s := S128x4096) ![0, 0] S128x4096.size inb_S128x4096_S128x4096_0_0
abbrev rW : Rect S4096x2048 := Rect.unit (s := S4096x2048) ![0, 0] S4096x2048.size inb_S4096x2048_S4096x2048_0_0
abbrev rS : Rect S32x128x64 := Rect.unit (s := S32x128x64) ![0, 0, 0] S32x128x64.size inb_S32x128x64_S32x128x64_0_0_0
/-- A device's own slot. -/
abbrev rOwn (d : Dev nD) : Rect S32x128x64 := Rect.unit (s := S32x128x64) (k0_off1 d) S1x128x64.size (k0_off1_inb d)
/-- A device's own rows of its result. -/
abbrev rRows (d : Dev nD) : Rect S4096x64 := Rect.unit (s := S4096x64) (k0_off2 d) S128x64.size (k0_off2_inb d)

/-- The computation between the handshake and the transfers: the product, split into slots and stored, and the
    device's own slot copied to its own rows of the result; then `k`. -/
def compute {α : Type} (d : Dev nD) (k : Prog (Eff F) α) : Prog (Eff F) α :=
  .op (.load xM rX.toLoadRect (View.loadsAt_vmem h_S128x4096)) fun x =>
  .op (.load wM rW.toLoadRect (View.loadsAt_vmem h_S4096x2048)) fun w =>
  .op (.load sM rS.toLoadRect (View.loadsAt_vmem h_S32x128x64)) fun _ =>
  .op (.store sM rS (k0_pay1 x w) Finset.univ
    (View.stores_vmem h_S32x128x64 ((Memref.isWhole_whole cc0_scratch0).storeExact_slice rfl _ packedbf16_S32x128x64_S32x128x64_0_0_0) (fun _ => rfl)) (.inl rfl)) fun _ =>
  .op (.load sM (rOwn d).toLoadRect (View.loadsAt_vmem h_S1x128x64)) fun v =>
  .op (.load oM (rRows d).toLoadRect (View.loadsAt_vmem h_S128x64)) fun _ =>
  .op (.store oM (rRows d) (k0_pay2 v) Finset.univ
    (View.stores_vmem h_S128x64 ((Memref.isWhole_whole cc0_stg2_0).storeExact_slice rfl _ (k0_off2_packedbf16 d)) (fun _ => rfl)) (.inl rfl)) fun _ => k

/-- The body over the device it reads first. -/
def body (d : Dev nD) : Prog (Eff F) PUnit :=
  steps (eSig d) dist (.op (.semWait barS (31#32 : BitVec 32).toInt) fun _ => compute d
    (steps (eSend d) dist (steps (eRecv d) dist (steps (eSent d) dist (.ret ⟨⟩)))))

set_option maxRecDepth 65536 in
/-- The printed body is these lists of steps: by definitional unfolding. -/
theorem body_eq :
    cc0_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2
      = .op .deviceId fun d => body d := by
  chain_rfl

end Cert.KernelIdeal.A2A

end
-- ==== Proof.IdealContents.lean ====
/-
# The blocks of the result and the slots of the product

Device `c` computes its 128 rows of the product and stores them as 32 slots of 64 columns, slot `j` the columns of
device `j`. Slot `j` of device `i` lands on rows `128 i …` of device `j`'s result. This module fixes the contents that
the slots and the finished result hold, names the element sets of a slot and of a block of rows, and proves that a
landing, and the store of a device's own slot, leave the finished contents on the block they write.
-/
module

public import proofs.«01_k».proof.Proof.IdealSteps
public import Idealize.ShloMosaic.Lib.ValueLayout

@[expose] public section

noncomputable section

namespace Cert.KernelIdeal.A2A

open Cert.KernelIdeal Cert.KernelIdeal.Gen

open Idealize.ShloMosaic
open Idealize.ShloMosaic.TcCoe
open Idealize.ShloMosaic.ValueIdx
open Idealize.SL Idealize.SL.Sem

variable {F : FTy → Type} [FloatOps F]

/-! ## Distances -/

/-- The target of a block at distance `r + 1` counts its sender at distance `r + 1` before; -/
theorem from_peer : ∀ (c : Dev nD) (r : Fin 31), from' (peer c r) r = c := by decide +kernel
theorem peer_from : ∀ (c : Dev nD) (r : Fin 31), peer (from' c r) r = c := by decide +kernel
/-- and the device at distance `r + 1` before is the one at distance `31 - r` after. -/
theorem from_rev : ∀ (c : Dev nD) (r : Fin 31), from' c r.rev = peer c r := by decide +kernel
theorem peer_ne : ∀ (c : Dev nD) (r : Fin 31), peer c r ≠ c := by decide +kernel
theorem from_ne : ∀ (c : Dev nD) (r : Fin 31), from' c r ≠ c := by decide +kernel
theorem peer_inj (c : Dev nD) : Function.Injective (peer c) := fun r s h => by
  have h := congrArg Fin.val h; simp only [peer] at h; have := c.isLt; ext; simp only [nD] at *; omega
theorem from_inj (c : Dev nD) : Function.Injective (from' c) := fun r s h => by
  have h := congrArg Fin.val h; simp only [from'] at h; have := c.isLt; ext; simp only [nD] at *; omega
/-- Every other device is at one of the distances after, -/
theorem erase_eq_peer (c : Dev nD) : (Finset.univ.erase c) = Finset.univ.map ⟨peer c, peer_inj c⟩ := by
  revert c; decide +kernel
/-- and at one before. -/
theorem erase_eq_from (c : Dev nD) : (Finset.univ.erase c) = Finset.univ.map ⟨from' c, from_inj c⟩ := by
  revert c; decide +kernel

/-- Moving every device by distance `r + 1`. -/
def rot (r : Fin 31) : Dev nD ≃ Dev nD :=
  ⟨fun c => peer c r, fun c => from' c r, fun c => from_peer c r, fun c => peer_from c r⟩

/-! ## The views, at a device -/

theorem rows_inb (i : Dev nD) : ∀ a, (![128 * i.val, 0] : Fin 2 → ℕ) a + S128x64.size a ≤ S4096x64.size a := fun a => by
  have := i.isLt
  match a with
  | ⟨0, _⟩ => show 128 * i.val + 128 ≤ 4096; simp only [nD] at this; omega
  | ⟨1, _⟩ => show 0 + 64 ≤ 64; omega
theorem slot_inb (j : Dev nD) : ∀ a, (![j.val, 0, 0] : Fin 3 → ℕ) a + S1x128x64.size a ≤ S32x128x64.size a := fun a => by
  have := j.isLt
  match a with
  | ⟨0, _⟩ => show j.val + 1 ≤ 32; simp only [nD] at this; omega
  | ⟨1, _⟩ => show 0 + 128 ≤ 128; omega
  | ⟨2, _⟩ => show 0 + 64 ≤ 64; omega

/-- Rows `128 i …` of a result. -/
abbrev rowsAt (i : Dev nD) : Memref sig .tc .vmem S128x64 .bf16 :=
  oM.slice (Rect.unit (s := S4096x64) ![128 * i.val, 0] S128x64.size (rows_inb i)) (fun _ => rfl)
/-- Slot `j`. -/
abbrev slotAt (j : Dev nD) : Memref sig .tc .vmem S128x64 .bf16 :=
  (sM.slice (Rect.unit (s := S32x128x64) ![j.val, 0, 0] S1x128x64.size (slot_inb j)) (fun _ => rfl)).squeeze S128x64 squeezes_S1x128x64_S128x64

theorem rowsM_eq (d : Dev nD) : rowsM d = rowsAt d := Memref.slice_unit_congr _ (k0_off5_eq d) _ _ _ _
theorem slotM_eq (d : Dev nD) (r : Fin 31) : slotM d r = slotAt (peer d r) := by
  unfold slotM slotAt
  rw [Memref.slice_unit_congr sM ((k0_off6_eq d r).trans rfl : k0_off6 d (word r) = ![(peer d r).val, 0, 0]) _ (slot_inb _) (fun _ => rfl) (fun _ => rfl)]

/-- The elements of rows `128 i …`, and of slot `j`. -/
abbrev rowsSet (i : Dev nD) : Finset S4096x64.Idx := (rowsAt i).view.set
abbrev slotSet (j : Dev nD) : Finset S32x128x64.Idx := (slotAt j).view.set

theorem rowsSet_eq (i : Dev nD) : rowsSet i = (Rect.unit (s := S4096x64) ![128 * i.val, 0] S128x64.size (rows_inb i)).set :=
  View.set_slice_whole cc0_stg2_0 _
theorem slotSet_eq (j : Dev nD) : slotSet j = (Rect.unit (s := S32x128x64) ![j.val, 0, 0] S1x128x64.size (slot_inb j)).set :=
  (View.set_reshape _ _).trans (View.set_slice_whole cc0_scratch0 _)

theorem mem_rowsSet (i : Dev nD) (x : S4096x64.Idx) : x ∈ rowsSet i ↔ (x 0).val / 128 = i.val := by
  rw [rowsSet_eq, Rect.mem_set_unit]
  have h1 : (x 1).val < 64 := (x 1).isLt
  constructor
  · intro h
    have h0 : 128 * i.val ≤ (x 0).val ∧ (x 0).val < 128 * i.val + 128 := h 0
    omega
  · intro h a
    match a with
    | ⟨0, _⟩ => show 128 * i.val ≤ (x 0).val ∧ (x 0).val < 128 * i.val + 128; omega
    | ⟨1, _⟩ => show 0 ≤ (x 1).val ∧ (x 1).val < 0 + 64; omega
theorem mem_slotSet (j : Dev nD) (x : S32x128x64.Idx) : x ∈ slotSet j ↔ (x 0).val = j.val := by
  rw [slotSet_eq, Rect.mem_set_unit]
  have h1 : (x 1).val < 128 := (x 1).isLt
  have h2 : (x 2).val < 64 := (x 2).isLt
  constructor
  · intro h
    have h0 : j.val ≤ (x 0).val ∧ (x 0).val < j.val + 1 := h 0
    omega
  · intro h a
    match a with
    | ⟨0, _⟩ => show j.val ≤ (x 0).val ∧ (x 0).val < j.val + 1; omega
    | ⟨1, _⟩ => show 0 ≤ (x 1).val ∧ (x 1).val < 0 + 128; omega
    | ⟨2, _⟩ => show 0 ≤ (x 2).val ∧ (x 2).val < 0 + 64; omega

/-- The blocks of rows are disjoint and cover the result; -/
theorem rows_disjoint (i i' : Dev nD) (h : i ≠ i') : Disjoint (rowsSet i) (rowsSet i') :=
  Finset.disjoint_left.mpr fun x hx hx' => h (Fin.ext (((mem_rowsSet i x).mp hx).symm.trans ((mem_rowsSet i' x).mp hx')))
theorem rows_cover : Finset.univ.biUnion rowsSet = Finset.univ := by
  ext x
  simp only [Finset.mem_biUnion, Finset.mem_univ, true_and, iff_true]
  have h0 : (x 0).val < 4096 := (x 0).isLt
  exact ⟨⟨(x 0).val / 128, by simp only [nD]; omega⟩, (mem_rowsSet _ x).mpr rfl⟩
/-- and so are the slots, and cover the slots' buffer. -/
theorem slot_disjoint (i i' : Dev nD) (h : i ≠ i') : Disjoint (slotSet i) (slotSet i') :=
  Finset.disjoint_left.mpr fun x hx hx' => h (Fin.ext (((mem_slotSet i x).mp hx).symm.trans ((mem_slotSet i' x).mp hx')))
theorem slot_cover : Finset.univ.biUnion slotSet = Finset.univ := by
  ext x
  simp only [Finset.mem_biUnion, Finset.mem_univ, true_and, iff_true]
  have h0 : (x 0).val < 32 := (x 0).isLt
  exact ⟨⟨(x 0).val, by simp only [nD]; omega⟩, (mem_slotSet _ x).mpr rfl⟩

/-- The element of the result under an index of a block of rows. -/
theorem rowsAt_emb (i : Dev nD) (p : Fin 128) (q : Fin 64) :
    (rowsAt i).view.emb (ix2 p q) = (ix2 (⟨128 * i.val + p.val, by have := i.isLt; simp only [nD] at this; omega⟩ : Fin 4096) q : S4096x64.Idx) := by
  funext a
  match a with
  | ⟨0, _⟩ => exact Fin.ext (by show 128 * i.val + 1 * p.val = _; rw [one_mul])
  | ⟨1, _⟩ => exact Fin.ext (by show 0 + 1 * q.val = _; rw [one_mul, zero_add])
/-- The element of the slots' buffer under an index of a slot. -/
theorem slotAt_emb (j : Dev nD) (p : Fin 128) (q : Fin 64) :
    (slotAt j).view.emb (ix2 p q) = (ix3 (⟨j.val, j.isLt⟩ : Fin 32) p q : S32x128x64.Idx) := by
  show (Rect.unit (s := S32x128x64) ![j.val, 0, 0] S1x128x64.size (slot_inb j)).emb (Shape.reshapeEquiv _ (ix2 p q)) = _
  rw [reshapeEquiv_ix2_1ab]
  funext a
  match a with
  | ⟨0, _⟩ => exact Fin.ext (by show j.val + 1 * 0 = _; rw [mul_zero, add_zero])
  | ⟨1, _⟩ => exact Fin.ext (by show 0 + 1 * p.val = _; rw [one_mul, zero_add])
  | ⟨2, _⟩ => exact Fin.ext (by show 0 + 1 * q.val = _; rw [one_mul, zero_add])

/-! ## The contents -/

/-- The result a device `c` ends with, from the slots `S i` of every device `i`: row `128 i + p` is row `p` of slot
    `c` of device `i`. -/
def gathered (S : Dev nD → S32x128x64.Idx → Elt F .bf16) (c : Dev nD) : S4096x64.Idx → Elt F .bf16 := fun x =>
  S ⟨(x 0).val / 128, by have h0 : (x 0).val < 4096 := (x 0).isLt; simp only [nD]; omega⟩
    (ix3 (⟨c.val, c.isLt⟩ : Fin 32) (⟨(x 0).val % 128, Nat.mod_lt _ (by decide)⟩ : Fin 128) (⟨(x 1).val, (x 1).isLt⟩ : Fin 64))

omit [FloatOps F] in
/-- On a block of rows the gathered result is the sender's slot. -/
theorem gathered_rows (S : Dev nD → S32x128x64.Idx → Elt F .bf16) (c i : Dev nD) (p : Fin 128) (q : Fin 64) :
    gathered S c ((rowsAt i).view.emb (ix2 p q)) = S i (ix3 (⟨c.val, c.isLt⟩ : Fin 32) p q) := by
  rw [rowsAt_emb]
  have hp := p.isLt
  have h1 : (128 * i.val + p.val) / 128 = i.val := by omega
  have h2 : (128 * i.val + p.val) % 128 = p.val := by omega
  show S ⟨(128 * i.val + p.val) / 128, _⟩ (ix3 _ ⟨(128 * i.val + p.val) % 128, _⟩ _) = _
  refine congrArg₂ S (Fin.ext h1) (funext fun a => ?_)
  match a with
  | ⟨0, _⟩ => rfl
  | ⟨1, _⟩ => exact Fin.ext h2
  | ⟨2, _⟩ => rfl

omit [FloatOps F] in
/-- A slot of device `i` read whole, at an index. -/
theorem slot_read (j : Dev nD) (f : S32x128x64.Idx → Elt F .bf16) (p : Fin 128) (q : Fin 64) :
    (slotAt j).view.read (Elt F) f (ix2 p q) = f (ix3 (⟨j.val, j.isLt⟩ : Fin 32) p q) := by
  rw [View.read_apply, slotAt_emb]; rfl

omit [FloatOps F] in
/-- A landing: slot `c` of device `i` written to rows `128 i …` of device `c`'s result leaves the gathered contents there. -/
theorem landed_eq (S : Dev nD → S32x128x64.Idx → Elt F .bf16) (c i : Dev nD) (fd : S4096x64.Idx → Elt F .bf16) :
    ∀ x ∈ rowsSet i, (rowsAt i).view.write (Elt F) fd ((slotAt c).view.read (Elt F) (S i)) Finset.univ x = gathered S c x := by
  intro x hx
  obtain ⟨y, -, rfl⟩ := Finset.mem_map.mp hx
  obtain ⟨p, q, rfl⟩ : ∃ (p : Fin 128) (q : Fin 64), y = ix2 p q := ⟨y 0, y 1, eq_ix2 y⟩
  rw [View.write_emb_of_mem _ _ (Finset.mem_univ _), gathered_rows, slot_read]; rfl

/-! ## The device's own slot -/

theorem hz2 : (![0, 0] : Fin 2 → ℕ) = fun _ => 0 := funext fun a => by fin_cases a <;> rfl
theorem hz3 : (![0, 0, 0] : Fin 3 → ℕ) = fun _ => 0 := funext fun a => by fin_cases a <;> rfl

omit [FloatOps F] in
theorem read_x (f : S128x4096.Idx → Elt F .bf16) : xM.view.readAt (Elt F) rX.toLoadRect f = f :=
  Memref.readAt_unit_zero (Elt F) cc0_stg0_0 hz2 _ f
omit [FloatOps F] in
theorem read_w (f : S4096x2048.Idx → Elt F .bf16) : wM.view.readAt (Elt F) rW.toLoadRect f = f :=
  Memref.readAt_unit_zero (Elt F) cc0_stg1_0 hz2 _ f
omit [FloatOps F] in
theorem write_s (f w : S32x128x64.Idx → Elt F .bf16) : (sM.access rS : View sig .tc _ _ _).write (Elt F) f w Finset.univ = w :=
  Memref.write_access_unit_zero_univ (Elt F) cc0_scratch0 hz3 _ f w

/-- The rows a device writes itself are its own block. -/
theorem access_rows_set (d : Dev nD) : (oM.access (rRows d) : View sig .tc _ _ _).set = rowsSet d := by
  rw [rowsSet_eq]
  refine (View.set_slice_whole cc0_stg2_0 (rRows d)).trans ?_
  exact congrArg (fun r : Rect S4096x64 => r.set) (Rect.unit_congr (s := S4096x64) (size := S128x64.size) (k0_off2_eq d) (k0_off2_inb d) (rows_inb d))

/-- A slot copied to a block of rows, by a load and a store at offsets that name them, leaves the gathered contents. -/
theorem own_eq_at (S : Dev nD → S32x128x64.Idx → Elt F .bf16) (d : Dev nD) (fd : S4096x64.Idx → Elt F .bf16)
    (o1 : Fin 3 → ℕ) (o2 : Fin 2 → ℕ) (h1 : o1 = ![d.val, 0, 0]) (h2 : o2 = ![128 * d.val, 0])
    (i1 : ∀ a, o1 a + S1x128x64.size a ≤ S32x128x64.size a) (i2 : ∀ a, o2 a + S128x64.size a ≤ S4096x64.size a) :
    ∀ x ∈ rowsSet d, (oM.access (Rect.unit (s := S4096x64) o2 S128x64.size i2) : View sig .tc _ _ _).write (Elt F) fd
      (k0_pay2 (sM.view.readAt (Elt F) (Rect.unit (s := S32x128x64) o1 S1x128x64.size i1).toLoadRect (S d))) Finset.univ x = gathered S d x := by
  subst h1 h2
  intro x hx
  obtain ⟨y, -, rfl⟩ := Finset.mem_map.mp hx
  obtain ⟨p, q, rfl⟩ : ∃ (p : Fin 128) (q : Fin 64), y = ix2 p q := ⟨y 0, y 1, eq_ix2 y⟩
  refine (View.write_emb_of_mem (v := (oM.access (Rect.unit (s := S4096x64) ![128 * d.val, 0] S128x64.size i2) : View sig .tc _ _ _))
    fd _ (Finset.mem_univ (ix2 p q))).trans ?_
  rw [gathered_rows]
  refine (cast_eq _ _).trans ?_
  unfold k0_pay2
  refine (shapeCast_1ab_ab_apply _ _ _ _).trans ?_
  show S d ((Rect.unit (s := S32x128x64) ![d.val, 0, 0] S1x128x64.size i1).emb _) = _
  refine congrArg (S d) (funext fun a => ?_)
  match a with
  | ⟨0, _⟩ => exact Fin.ext (by show d.val + 1 * 0 = _; rw [mul_zero, add_zero])
  | ⟨1, _⟩ => exact Fin.ext (by show 0 + 1 * p.val = _; rw [one_mul, zero_add])
  | ⟨2, _⟩ => exact Fin.ext (by show 0 + 1 * q.val = _; rw [one_mul, zero_add])

/-- The own slot's copy leaves the gathered contents on the device's own rows. -/
theorem own_eq (S : Dev nD → S32x128x64.Idx → Elt F .bf16) (d : Dev nD) (fd : S4096x64.Idx → Elt F .bf16) :
    ∀ x ∈ rowsSet d, (oM.access (rRows d) : View sig .tc _ _ _).write (Elt F) fd
      (k0_pay2 (sM.view.readAt (Elt F) (rOwn d).toLoadRect (S d))) Finset.univ x = gathered S d x :=
  own_eq_at S d fd _ _ (k0_off1_eq d) (k0_off2_eq d) (k0_off1_inb d) (k0_off2_inb d)

end Cert.KernelIdeal.A2A

end
-- ==== Proof.IdealProtocol.lean ====
/-
# The exchange as a protocol of rounds

Each device has a barrier cell, and for each distance `r + 1` a send cell and a receive cell, each used for one round.
* The barrier cell of `c` has 31 duties of one unit, one per distance. Duty `r` is paid by the device at distance
  `r + 1` before `c`, which hands over the rows of its own result that `c`'s block lands on.
* The receive cell of `c` at `r` has one duty, paid by the landing of the block from distance `r + 1` before. It hands
  `c` those rows of its result, holding the finished contents.
* The send cell of `c` at `r` has one duty, paid when the slot sent at distance `r + 1` has been read. It hands the slot back.
A device waits at its barrier owing only landings, and for landings and sends owing nothing, so levels 0 (staging and
send), 1 (barrier), 2 (receive) order the waits.
-/
module

public import proofs.«01_k».proof.Proof.IdealContents

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, with duties named by distances -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The send semaphore of slot `j` and the receive semaphore of the block from device `i`. -/
def sndSem (j : Dev nD) : DmaSem sig := ⟨3 + j.val, by have := j.isLt; simp only [nD] at this; show 3 + j.val < 67; omega⟩
def rcvSem (i : Dev nD) : DmaSem sig := ⟨35 + i.val, by have := i.isLt; simp only [nD] at this; show 35 + i.val < 67; omega⟩

theorem sndSem_inj : Function.Injective sndSem := fun a b h => Fin.ext (by have := congrArg Fin.val h; simp only [sndSem] at this; omega)
theorem rcvSem_inj : Function.Injective rcvSem := fun a b h => Fin.ext (by have := congrArg Fin.val h; simp only [rcvSem] at this; omega)
theorem sndSem_ne_rcvSem (j i : Dev nD) : sndSem j ≠ rcvSem i := fun h => by
  have := congrArg Fin.val h; have hj := j.isLt; simp only [sndSem, rcvSem, nD] at this hj; omega

/-- The semaphores the kernel slices out of its two arrays are these. -/
theorem sendS_eq : ∀ (d : Dev nD) (r : Fin 31), (sendS d r).sem = sndSem (peer d r) := by decide +kernel
theorem landS_eq : ∀ (d : Dev nD), (landS d).sem = rcvSem d := by decide +kernel
theorem recvS_eq : ∀ (d : Dev nD) (r : Fin 31), (recvS d r).sem = rcvSem (from' d r) := by decide +kernel

/-- What names a cell of a device: the barrier, or a send (`false`) or receive (`true`) cell at a distance. -/
abbrev Key : Type := Option (Bool × Fin 31)

abbrev csem (c : Dev nD) : Key → SemLoc sig
  | none => .reg barS
  | some (false, r) => .dma (sndSem (peer c r))
  | some (true, r) => .dma (rcvSem (from' c r))
abbrev kcell (ck : Dev nD × Key) : GSem nD τ sig := ((ck.1 : Thread nD τ), csem ck.1 ck.2)

abbrev barCell (c : Dev nD) : GSem nD τ sig := ((c : Thread nD τ), .reg barS)
abbrev sndCell (c : Dev nD) (r : Fin 31) : GSem nD τ sig := ((c : Thread nD τ), .dma (sndSem (peer c r)))
abbrev rcvCell (c : Dev nD) (r : Fin 31) : GSem nD τ sig := ((c : Thread nD τ), .dma (rcvSem (from' c r)))

/-- The credit of one block. -/
def N : ℕ := (rowsAt 0).view.dmaCredit
theorem N_pos : 0 < N := View.dmaCredit_pos _ (by decide)
theorem N_rows (i : Dev nD) : (rowsAt i).view.dmaCredit = N := rfl
theorem N_rowsM (d : Dev nD) : (rowsM d).view.dmaCredit = N := rfl
theorem N_rowsFromM (d : Dev nD) (r : Fin 31) : (rowsFromM d r).view.dmaCredit = N := rfl
theorem N_slotM (d : Dev nD) (r : Fin 31) : (slotM d r).view.dmaCredit = N := rfl

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s staged rows of `x`, and its staged `w`. -/
def xstg (c : Dev nD) : S128x4096.Idx → Elt F .bf16 :=
  (win0_0.blk (0 : Fin 1)).view.read (Elt F) ((s₀ m ρ).mem ((c : Thread nD τ).loc main_arg0))
def wstg (c : Dev nD) : S4096x2048.Idx → Elt F .bf16 :=
  (win0_1.blk (0 : Fin 1)).view.read (Elt F) ((s₀ m ρ).mem ((c : Thread nD τ).loc main_arg1))

/-- Device `c`'s rows of the product, as 32 slots. -/
def slots (c : Dev nD) : S32x128x64.Idx → Elt F .bf16 := k0_pay1 (xstg m ρ c) (wstg m ρ c)
/-- Device `c`'s finished result. -/
def result (c : Dev nD) : S4096x64.Idx → Elt F .bf16 := gathered (slots m ρ) c

/-- Block `i` of device `d`'s result at contents `f`, and slot `j` of device `d` at contents `f`. -/
def rowsPts (d i : Dev nD) (f : S4096x64.Idx → Elt F .bf16) : sProp 𝕄 :=
  ((d : Thread nD τ).loc cc0_stg2_0) ↦[rowsSet i]{fullShare} f
def slotPts (d j : Dev nD) (f : S32x128x64.Idx → Elt F .bf16) : sProp 𝕄 :=
  ((d : Thread nD τ).loc cc0_scratch0) ↦[slotSet j]{fullShare} f

omit [FloatOps F] in
instance rowsPts_storable (d i : Dev nD) (f) : BI.Storable (upEmb : UEmb _ 𝕄) (rowsPts (F := F) d i f) := by unfold rowsPts; infer_instance
omit [FloatOps F] in
instance slotPts_storable (d j : Dev nD) (f) : BI.Storable (upEmb : UEmb _ 𝕄) (slotPts (F := F) d j f) := by unfold slotPts; infer_instance

/-! ## The schedule -/

def barPay (c : Dev nD) (r : Fin 31) : sProp 𝕄 := iprop(∃ f, rowsPts (from' c r) c f)
def rcvPay (c : Dev nD) (r : Fin 31) : sProp 𝕄 := rowsPts c (from' c r) (result m ρ c)
def sndPay (c : Dev nD) (r : Fin 31) : sProp 𝕄 := slotPts c (peer c r) (slots m ρ c)

def exRd : Rounds.Schedule (GSem nD τ sig) (Fin 31) 𝕄 where
  duties g n := if n = 0 ∧ g.1.2 = .tc then Finset.univ.filter (fun r =>
    g.2 = .reg barS ∨ g.2 = .dma (sndSem (peer g.1.1 r)) ∨ g.2 = .dma (rcvSem (from' g.1.1 r))) else ∅
  unitless _ := False
  amount g _ _ := if g.2 = .reg barS then 1 else N
  payload g _ r :=
    if g.2 = .reg barS then barPay g.1.1 r
    else if g.2 = .dma (rcvSem (from' g.1.1 r)) then rcvPay m ρ g.1.1 r
    else if g.2 = .dma (sndSem (peer g.1.1 r)) then sndPay m ρ g.1.1 r
    else iprop(emp)
  amount_pos g _ _ _ := by
    by_cases h : g.2 = .reg barS
    · rw [if_pos h]; exact Nat.one_pos
    · rw [if_neg h]; exact N_pos

instance exRd_payload_storable (g : GSem nD τ sig) (n : ℕ) (r : Fin 31) :
    BI.Storable (upEmb : UEmb _ 𝕄) ((exRd (F := F) m ρ).payload g n r) := by
  show BI.Storable upEmb (if g.2 = .reg barS then barPay g.1.1 r else if g.2 = .dma (rcvSem (from' g.1.1 r)) then rcvPay m ρ g.1.1 r
    else if g.2 = .dma (sndSem (peer g.1.1 r)) then sndPay m ρ g.1.1 r else iprop(emp))
  unfold barPay rcvPay sndPay
  (repeat' split) <;> infer_instance

section Sched
variable (c : Dev nD) (r : Fin 31)

theorem dma_ne_bar (q : DmaSem sig) : (SemLoc.dma q : SemLoc sig) ≠ .reg barS := fun h => by cases h
theorem dma_inj {p q : DmaSem sig} (h : (SemLoc.dma p : SemLoc sig) = .dma q) : p = q := by cases h; rfl

theorem duties_bar : (exRd (F := F) m ρ).duties (barCell c) 0 = Finset.univ := by
  dsimp only [exRd]; rw [if_pos ⟨rfl, rfl⟩]; exact Finset.filter_true_of_mem fun _ _ => Or.inl rfl
theorem duties_snd : (exRd (F := F) m ρ).duties (sndCell c r) 0 = {r} := by
  dsimp only [exRd]; rw [if_pos ⟨rfl, rfl⟩]
  ext s
  simp only [Finset.mem_filter, Finset.mem_univ, true_and, Finset.mem_singleton]
  constructor
  · rintro (h | h | h)
    · exact absurd h (dma_ne_bar _)
    · exact (peer_inj c (sndSem_inj (dma_inj h))).symm
    · exact absurd (dma_inj h) (sndSem_ne_rcvSem _ _)
  · rintro rfl; exact Or.inr (Or.inl rfl)
theorem duties_rcv : (exRd (F := F) m ρ).duties (rcvCell c r) 0 = {r} := by
  dsimp only [exRd]; rw [if_pos ⟨rfl, rfl⟩]
  ext s
  simp only [Finset.mem_filter, Finset.mem_univ, true_and, Finset.mem_singleton]
  constructor
  · rintro (h | h | h)
    · exact absurd h (dma_ne_bar _)
    · exact absurd (dma_inj h).symm (sndSem_ne_rcvSem _ _)
    · exact (from_inj c (rcvSem_inj (dma_inj h))).symm
  · rintro rfl; exact Or.inr (Or.inr rfl)
theorem duties_later (g : GSem nD τ sig) : ∀ n, 1 ≤ n → (exRd (F := F) m ρ).duties g n = ∅ :=
  fun n hn => by dsimp only [exRd]; rw [if_neg fun h => by omega]

theorem amount_bar (d : Fin 31) : (exRd (F := F) m ρ).amount (barCell c) 0 d = 1 := by dsimp only [exRd]; exact if_pos rfl
theorem amount_dma (q : DmaSem sig) (d : Fin 31) : (exRd (F := F) m ρ).amount ((c : Thread nD τ), .dma q) 0 d = N := by
  dsimp only [exRd]; exact if_neg (dma_ne_bar _)

theorem expect_bar : (exRd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_snd : (exRd (F := F) m ρ).expect (sndCell c r) 0 = N := by
  unfold Schedule.expect Schedule.amountOf; rw [duties_snd, Finset.sum_singleton, amount_dma]
theorem expect_rcv : (exRd (F := F) m ρ).expect (rcvCell c r) 0 = N := by
  unfold Schedule.expect Schedule.amountOf; rw [duties_rcv, Finset.sum_singleton, amount_dma]

theorem payload_bar : (exRd (F := F) m ρ).payload (barCell c) 0 r = barPay c r := by dsimp only [exRd]; rw [if_pos rfl]
theorem payload_snd : (exRd (F := F) m ρ).payload (sndCell c r) 0 r = sndPay m ρ c r := by
  dsimp only [exRd]; rw [if_neg (dma_ne_bar _), if_neg (fun h => sndSem_ne_rcvSem _ _ (dma_inj h)), if_pos rfl]
theorem payload_rcv : (exRd (F := F) m ρ).payload (rcvCell c r) 0 r = rcvPay m ρ c r := by
  dsimp only [exRd]; rw [if_neg (dma_ne_bar _), if_pos rfl]

/-- The rest of a round with no duty taken: every payload. -/
theorem rest_bar : bigSep ((exRd (F := F) m ρ).duties (barCell c) 0 \ ∅) (fun d => (exRd (F := F) m ρ).payload (barCell c) 0 d)
    = bigSep Finset.univ fun d => barPay c d := by
  rw [Finset.sdiff_empty, duties_bar]; exact bigSep_congr fun d _ => payload_bar m ρ c d
theorem rest_snd : bigSep ((exRd (F := F) m ρ).duties (sndCell c r) 0 \ ∅) (fun d => (exRd (F := F) m ρ).payload (sndCell c r) 0 d) = sndPay m ρ c r := by
  rw [Finset.sdiff_empty, duties_snd, bigSep_singleton, payload_snd]
theorem rest_rcv : bigSep ((exRd (F := F) m ρ).duties (rcvCell c r) 0 \ ∅) (fun d => (exRd (F := F) m ρ).payload (rcvCell c r) 0 d) = rcvPay m ρ c r := by
  rw [Finset.sdiff_empty, duties_rcv, bigSep_singleton, payload_rcv]

end Sched

/-! ## What each device owes at launch; the levels -/

/-- A tally, and one more for each distance of a list. -/
def owL (base : CellTallies nD τ sig Unit) (f : Fin 31 → CellTallies nD τ sig Unit) : List (Fin 31) → CellTallies nD τ sig Unit
  | [] => base
  | r :: l => owL base f l + f r

/-- One unit on the barrier of the device at distance `r + 1`, and one block's credit on its receive cell. -/
def sigT (c : Dev nD) (r : Fin 31) : CellTallies nD τ sig Unit := tallyAt (barCell (peer c r)) () 1
def sendT (c : Dev nD) (r : Fin 31) : CellTallies nD τ sig Unit := tallyAt (rcvCell (peer c r) r) () N

/-- What a device owes once it has signalled, and at launch. -/
def O₁ (c : Dev nD) : CellTallies nD τ sig Unit := owL 0 (sendT c) dist
def O₀ (c : Dev nD) : CellTallies nD τ sig Unit := owL (O₁ c) (sigT c) dist

def L (g : GSem nD τ sig) : Finset Unit := if g.1.2 = .tc then {()} else ∅
def lv (g : GSem nD τ sig) (_ : Unit) : ℕ := if g.2 = .reg barS then 1 else if ∃ i, g.2 = .dma (rcvSem i) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_rcv (c : Dev nD) (r : Fin 31) (u : Unit) : lv (rcvCell c r) u = 2 := by
  unfold lv; rw [if_neg (dma_ne_bar _), if_pos ⟨_, rfl⟩]

theorem owL_pos {base : CellTallies nD τ sig Unit} {f : Fin 31 → CellTallies nD τ sig Unit} {g : GSem nD τ sig} {u : Unit} :
    ∀ {l : List (Fin 31)}, 0 < owL base f l g u → 0 < base g u ∨ ∃ r, 0 < f r g u
  | [], h => Or.inl h
  | r :: l, h => by
    unfold owL at h
    rw [Pi.add_apply, Finsupp.add_apply] at h
    by_cases h' : 0 < f r g u
    · exact Or.inr ⟨r, h'⟩
    · exact owL_pos (l := l) (by omega)

theorem tally_pos {g' g : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ r, g = rcvCell (peer c r) r := by
  rcases owL_pos h with h | ⟨r, h⟩
  · exact absurd h (Nat.lt_irrefl 0)
  · exact ⟨r, tally_pos h⟩
theorem O₀_pos {c : Dev nD} {g : GSem nD τ sig} {u : Unit} (h : 0 < O₀ c g u) :
    (∃ r, g = rcvCell (peer c r) r) ∨ ∃ r, g = barCell (peer c r) := by
  rcases owL_pos h with h | ⟨r, h⟩
  · exact Or.inl (O₁_pos h)
  · exact Or.inr ⟨r, tally_pos h⟩

/-- A staging wait is allowed with everything owed, and with nothing owed. -/
theorem mayWait_stage (c : Dev nD) (q : DmaSem sig) (hq : ∀ i, q ≠ rcvSem i) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> (rw [L_tc]; exact Finset.mem_singleton_self _))
      (fun p hp => by
        rw [Finset.mem_singleton.mp hp]; dsimp only [lv]; rw [if_neg (dma_ne_bar q), if_neg (fun ⟨i, hi⟩ => hq i (dma_inj hi))])
      (fun g u hg => by
        rcases O₀_pos hg with ⟨r, rfl⟩ | ⟨r, rfl⟩
        · rw [lv_rcv]; decide
        · rw [lv_bar]; decide)
  · rw [MayWait_zero]; iintro -; iempintro

/-- The barrier wait is allowed with the landings owed: receive cells lie above. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨r, rfl⟩ := O₁_pos hg; rw [L_tc]; exact Finset.mem_singleton_self _)
    (fun p hp => by rw [Finset.mem_singleton.mp hp]; exact (lv_bar c ()).le)
    (fun g u hg => by obtain ⟨r, rfl⟩ := O₁_pos hg; rw [lv_rcv]; decide)

end Cert.KernelIdeal.A2A

end
-- ==== Proof.IdealBody.lean ====
/-
# The body, executed step by step

The four stretches of the body are each one rule applied along a list of distances. `wp_steps` is that induction, and
the four step rules are `sig_step`, `send_step`, and `wait_step` for both kinds of waits. `sound_body` puts them
together with the computation between, from what the launch gives a device to the finished result.
-/
module

public import proofs.«01_k».proof.Proof.IdealProtocol

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev WP (c : Dev nD) (k : Prog (Eff F) PUnit) (Q : PUnit → sProp 𝕄) : sProp 𝕄 :=
  wp frame (wpE (defs₀ (F := F)) 𝒱₀ (c : Thread nD τ) none) Set.univ k Q

/-! ## Resources along a list of distances -/

/-- The resource of each distance of a list, conjoined. -/
def sepL (R : Fin 31 → sProp 𝕄) : List (Fin 31) → sProp 𝕄
  | [] => iprop(emp)
  | r :: l => iprop(R r ∗ sepL R l)

omit [FloatOps F] in
theorem sepL_eq (R : Fin 31 → sProp 𝕄) : ∀ (l : List (Fin 31)), l.Nodup → bigSep l.toFinset R = sepL R l
  | [], _ => rfl
  | r :: l, h => by
    rw [List.toFinset_cons, bigSep_insert (by rw [List.mem_toFinset]; exact (List.nodup_cons.mp h).1), sepL_eq R l (List.nodup_cons.mp h).2]; rfl
omit [FloatOps F] in
/-- Over all distances, as the body's lists run through them. -/
theorem sepL_dist (R : Fin 31 → sProp 𝕄) : sepL R dist = bigSep Finset.univ R := by
  rw [← sepL_eq R dist dist_nodup]
  congr 1

/-- A step's rule applied along a list: each step takes its own resource and the state, and gives its own and the next. -/
theorem wp_steps (c : Dev nD) (e : Fin 31 → Eff F PUnit) (R P : Fin 31 → sProp 𝕄) (S : List (Fin 31) → sProp 𝕄) (Q : PUnit → sProp 𝕄)
    (h : ∀ r l (k : Prog (Eff F) PUnit), iprop(R r ∗ S (r :: l)) ⊢ iprop(((P r ∗ S l) -∗ WP c k Q) -∗ WP c (.op (e r) fun _ => k) Q)) :
    ∀ (l : List (Fin 31)) (k : Prog (Eff F) PUnit), iprop(sepL R l ∗ S l) ⊢ iprop(((sepL P l ∗ S []) -∗ WP c k Q) -∗ WP c (steps e l k) Q)
  | [], k => by
    unfold sepL steps
    iintro ⟨-, HS⟩ Hk
    iapply Hk
    isplitr; · iempintro
    iexact HS
  | r :: l, k => by
    unfold sepL steps
    iintro ⟨⟨HR, HRs⟩, HS⟩ Hk
    iapply (h r l (steps e l k)) $$ [HR HS]
    · isplitl [HR] <;> iassumption
    iintro ⟨HP, HS⟩
    iapply (wp_steps c e R P S Q h l k) $$ [HRs HS]
    · isplitl [HRs] <;> iassumption
    iintro ⟨HPs, HS⟩
    iapply Hk
    isplitl [HP HPs]
    · isplitl [HP] <;> iassumption
    iexact HS

/-! ## What every device knows -/

variable (m : (ℓ : Loc nD τ sig) → Buf (Elt F) ℓ) (ρ : Dev nD → PrngReg)
variable (K : Dev nD × Key → ℕ)

/-- Every cell's invariant, and that every cell has reached its round. -/
def records : sProp 𝕄 :=
  iprop((bigSep Finset.univ fun ck : Dev nD × Key => cellInv ER (exRd m ρ) (K ck) (kcell ck))
    ∗ bigSep Finset.univ fun ck : Dev nD × Key => reached ER (kcell ck) 0)

instance records_persistent : BI.Persistent (records m ρ K) := by unfold records; infer_instance

theorem inv_at (ck : Dev nD × Key) : records m ρ K ⊢ cellInv ER (exRd m ρ) (K ck) (kcell ck) := by
  have h : (bigSep Finset.univ fun ck : Dev nD × Key => (cellInv ER (exRd m ρ) (K ck) (kcell ck) : sProp 𝕄)) ⊢ cellInv ER (exRd m ρ) (K ck) (kcell ck) :=
    bigSep_elim (Finset.mem_univ ck)
  unfold records; iintro ⟨H, -⟩; iapply h; iexact H
theorem reached_at (ck : Dev nD × Key) : records m ρ K ⊢ reached ER (kcell ck) 0 := by
  have h : (bigSep Finset.univ fun ck : Dev nD × Key => (reached ER (kcell ck) 0 : sProp 𝕄)) ⊢ reached ER (kcell ck) 0 :=
    bigSep_elim (Finset.mem_univ ck)
  unfold records; iintro ⟨-, H⟩; iapply h; iexact H

/-- What a device owes, its record of waits not named. -/
def owesE (c : Dev nD) (O : CellTallies nD τ sig Unit) : sProp 𝕄 := iprop(∃ W, owes (c : Thread nD τ) O W)

/-! ## The step rules -/

/-- The entry signal at distance `r + 1` hands the peer the rows of this device's result that the peer's block lands on. -/
theorem sig_step (c : Dev nD) (Q : PUnit → sProp 𝕄) (r : Fin 31) (l : List (Fin 31)) (k : Prog (Eff F) PUnit) :
    iprop((dutyTok ER (barCell (peer c r)) 0 r ∗ ∃ f, rowsPts c (peer c r) f) ∗ (records m ρ K ∗ owesE c (owL (O₁ c) (sigT c) (r :: l))))
      ⊢ iprop(((emp ∗ (records m ρ K ∗ owesE c (owL (O₁ c) (sigT c) l))) -∗ WP c k Q) -∗ WP c (.op (eSig c r) fun _ => k) Q) := by
  have he : (eSig c r : Eff F PUnit) = .semSignal ((peer c r : Dev nD) : Thread nD τ) barS ((1 : ℕ) : ℤ) := by
    unfold eSig; rw [sigDev_eq]; rfl
  rw [he]
  iintro ⟨⟨Ht, Hrows⟩, #HR, HO⟩ Hk
  unfold owesE
  icases HO with ⟨%W, HO⟩
  iapply (Rounds.wp_signal 𝒱₀ ER (exRd m ρ) (c : Thread nD τ) none (dst := ((peer c r : Dev nD) : Thread nD τ)) (κ := K (peer c r, none))
      (d := r) (by rw [duties_bar]; exact Finset.mem_univ _) (amount_bar m ρ (peer c r) r) () (owL (O₁ c) (sigT c) l) rfl)
    $$ [HO Ht Hrows]
  · isplitr; · iapply (inv_at m ρ K (peer c r, none)); iexact HR
    isplitl [HO]; · iexact HO
    isplitl [Ht]; · iexact Ht
    isplitl [Hrows]
    · rw [payload_bar]; unfold barPay; rw [from_peer]; iexact Hrows
    · iapply (reached_at m ρ K (peer c r, none)); iexact HR
  iintro HO
  iapply Hk
  isplitr; · iempintro
  isplitr; · iexact HR
  iexists W; iexact HO

/-- A transfer, its operands named by equations: slot `peer c r` of device `c` to rows `128 c …` of the peer's result. -/
theorem send_at (c : Dev nD) (Q : PUnit → sProp 𝕄) (r : Fin 31) (l : List (Fin 31)) (k : Prog (Eff F) PUnit)
    (n : Dev nD) (hn : n = peer c r) (src dst : Memref sig .tc .vmem S128x64 .bf16) (hsrc : src = slotAt (peer c r)) (hdst : dst = rowsAt c)
    (sS sR : DmaSem sig) (hS : sS = sndSem (peer c r)) (hR : sR = rcvSem (from' (peer c r) r))
    {hsc} {w₁ : src.view.WordExact} {w₂ : dst.view.WordExact} {ht : DmaTarget.Typed .vmem (.dma sR) (.remote (Dev.tc n : Thread nD τ) dst (.dma sS) hsc)} :
    iprop((dutyTok ER (rcvCell (peer c r) r) 0 r ∗ dutyTok ER (sndCell c r) 0 r ∗ slotPts c (peer c r) (slots m ρ c) ∗ ∃ f, rowsPts (peer c r) c f)
        ∗ (records m ρ K ∗ owesE c (owL 0 (sendT c) (r :: l))))
      ⊢ iprop(((cred (tallyAt (sndCell c r) () N) ∗ (records m ρ K ∗ owesE c (owL 0 (sendT c) l))) -∗ WP c k Q)
          -∗ WP c (.op (.enqueueDma src (.remote (Dev.tc n : Thread nD τ) dst (.dma sS) hsc) (.dma sR) w₁ w₂ ht) fun _ => k) Q) := by
  subst hn hsrc hdst hS hR
  have hpay₂ : ∀ fd : S4096x64.Idx → Elt F .bf16,
      ((((peer c r : Dev nD) : Thread nD τ).loc cc0_stg2_0) ↦[rowsSet c]{fullShare}
          ((rowsAt c).view.write (Elt F) fd ((slotAt (peer c r)).view.read (Elt F) (slots m ρ c)) Finset.univ) : sProp 𝕄)
        ⊢ (exRd (F := F) m ρ).payload (rcvCell (peer c r) r) 0 r := fun fd => by
    rw [payload_rcv]; unfold rcvPay rowsPts; rw [from_peer]
    exact Entails.of_eq (pointsTo_congr (landed_eq (slots m ρ) (peer c r) c fd))
  have hpay₁ : slotPts c (peer c r) (slots m ρ c) ⊢ (exRd (F := F) m ρ).payload (sndCell c r) 0 r := by
    rw [payload_snd]; exact BI.Entails.refl _
  unfold slotPts at hpay₁
  have hrule := fun fd : S4096x64.Idx → Elt F .bf16 => fun W => Rounds.wp_send_pointsTo (Q := Q) (k := fun _ : PUnit => k) (hsc := hsc) (hsrc := w₁) (hdst := w₂) (hsem := ht) (defs := defs₀ (F := F)) (Γ := ∅) (Es := Set.univ) (O₀ := owL 0 (sendT c) (r :: l))
    𝒱₀ ER (exRd m ρ) (c : Thread nD τ) none
    (κ₁ := K (c, some (false, r))) (κ₂ := K (peer c r, some (true, r)))
    (r₁ := 0) (r₂ := 0) (d₁ := r) (d₂ := r) (fd := fd) (fs := slots m ρ c) (q := fullShare)
    (by rw [duties_snd]; exact Finset.mem_singleton_self _) (by rw [duties_rcv]; exact Finset.mem_singleton_self _)
    () () N rfl (amount_dma m ρ c _ r) (amount_dma m ρ (peer c r) _ r) (owL 0 (sendT c) l) rfl (W := W) hpay₁ (hpay₂ fd)
  iintro ⟨⟨HtR, HtS, Hslot, ⟨%fd, Hrows⟩⟩, #HR, HO⟩ Hk
  unfold owesE slotPts rowsPts
  icases HO with ⟨%W, HO⟩
  iapply (hrule fd W) $$ [HtR HtS Hslot Hrows HO]
  · isplitr; · iapply (inv_at m ρ K (c, some (false, r))); iexact HR
    isplitr; · iapply (inv_at m ρ K (peer c r, some (true, r))); iexact HR
    isplitl [Hslot]; · iexact Hslot
    isplitl [Hrows]; · iexact Hrows
    isplitl [HO]; · iexact HO
    isplitl [HtS]; · iexact HtS
    isplitr; · iapply (reached_at m ρ K (c, some (false, r))); iexact HR
    isplitl [HtR]; · iexact HtR
    iapply (reached_at m ρ K (peer c r, some (true, r))); iexact HR
  iintro ⟨Hc, HO⟩
  iapply Hk
  isplitl [Hc]; · iexact Hc
  isplitr; · iexact HR
  iexists W; iexact HO

/-- The transfer at distance `r + 1`. -/
theorem send_step (c : Dev nD) (Q : PUnit → sProp 𝕄) (r : Fin 31) (l : List (Fin 31)) (k : Prog (Eff F) PUnit) :
    iprop((dutyTok ER (rcvCell (peer c r) r) 0 r ∗ dutyTok ER (sndCell c r) 0 r ∗ slotPts c (peer c r) (slots m ρ c) ∗ ∃ f, rowsPts (peer c r) c f)
        ∗ (records m ρ K ∗ owesE c (owL 0 (sendT c) (r :: l))))
      ⊢ iprop(((cred (tallyAt (sndCell c r) () N) ∗ (records m ρ K ∗ owesE c (owL 0 (sendT c) l))) -∗ WP c k Q)
          -∗ WP c (.op (eSend c r) fun _ => k) Q) :=
  send_at m ρ K c Q r l k (sendDev c r) (sendDev_eq c r) (slotM c r) (rowsM c) (slotM_eq c r) (rowsM_eq c) _ _ (sendS_eq c r)
    ((landS_eq c).trans (by rw [from_peer]))

/-- A wait for one block's credit on a cell of one duty, owing nothing: its payload, and its counter at zero again. -/
theorem wait_step (c : Dev nD) (Q : PUnit → sProp 𝕄) (κ : Bool) (r : Fin 31) (pay : sProp 𝕄)
    (sm : DmaSem sig) (hsm : (SemLoc.dma sm : SemLoc sig) = csem c (some (κ, r)))
    (hex : (exRd (F := F) m ρ).expect (kcell (c, some (κ, r))) 0 = N)
    (hpay : bigSep ((exRd (F := F) m ρ).duties (kcell (c, some (κ, r))) 0 \ ∅) (fun d => (exRd (F := F) m ρ).payload (kcell (c, some (κ, r))) 0 d) = pay)
    (src dst : Memref sig .tc .vmem S128x64 .bf16) (hN : dst.view.dmaCredit = N)
    {w₁ : src.view.WordExact} {w₂ : dst.view.WordExact} (k : Prog (Eff F) PUnit) :
    iprop((cred (tallyAt (kcell (c, some (κ, r))) () N) ∗ atPos ER (kcell (c, some (κ, r))) 0 ∅ 0) ∗ (records m ρ K ∗ owesE c 0))
      ⊢ iprop((((pay ∗ semVal (kcell (c, some (κ, r))) 0) ∗ (records m ρ K ∗ owesE c 0)) -∗ WP c k Q)
          -∗ WP c (.op (.waitDma2 sm src dst w₁ w₂) fun _ => k) Q) := by
  iintro ⟨⟨Hc, Hat⟩, #HR, HO⟩ Hk
  unfold owesE
  icases HO with ⟨%W, HO⟩
  unfold kcell
  rw [show ((((c, some (κ, r)) : Dev nD × Key).1 : Thread nD τ), csem ((c, some (κ, r)) : Dev nD × Key).1 ((c, some (κ, r)) : Dev nD × Key).2)
    = (((c : Thread nD τ), SemLoc.dma sm) : GSem nD τ sig) from by rw [hsm]]
  have hinv := inv_at m ρ K (c, some (κ, r))
  unfold kcell at hex hpay hinv
  rw [show ((((c, some (κ, r)) : Dev nD × Key).1 : Thread nD τ), csem ((c, some (κ, r)) : Dev nD × Key).1 ((c, some (κ, r)) : Dev nD × Key).2)
    = (((c : Thread nD τ), SemLoc.dma sm) : GSem nD τ sig) from by rw [hsm]] at hex hpay hinv
  rw [← hN]
  iapply (Rounds.wp_wait_rest_token 𝒱₀ ER (exRd m ρ) (c : Thread nD τ) none (κ := K (c, some (κ, r)))
      (wpE_waitDma2_eq 𝒱₀ (c : Thread nD τ) none Set.univ) (Set.mem_univ _) () (O := 0) (W := W) (R := 0) (m := 0) (T := ∅)
      (by rw [Nat.zero_add, hex, hN])) $$ [Hc HO Hat]
  · isplitr; · iapply hinv; iexact HR
    isplitl [Hc]; · iexact Hc
    isplitl [HO]; · iexact HO
    isplitr; · rw [MayWait_zero]; iempintro
    iexact Hat
  iintro ⟨HO, Hat, -, Hpay⟩
  imod (Rounds.cell_close ER (exRd m ρ) (Set.mem_univ (K (c, some (κ, r)))) (fun h => h) (R := 0 + 1) (duties_later m ρ _)) $$ [Hat] with Hz
  · isplitr; · iapply hinv; iexact HR
    iexact Hat
  iapply Hk
  isplitl [Hpay Hz]
  · isplitl [Hpay]
    · rw [← hpay]; iexact Hpay
    iexact Hz
  isplitr; · iexact HR
  iexists _; iexact HO

/-- The wait for the block from distance `r + 1` before. -/
theorem recv_step (c : Dev nD) (Q : PUnit → sProp 𝕄) (r : Fin 31) (l : List (Fin 31)) (k : Prog (Eff F) PUnit) :
    iprop((cred (tallyAt (rcvCell c r) () N) ∗ atPos ER (rcvCell c r) 0 ∅ 0) ∗ (records m ρ K ∗ owesE c 0))
      ⊢ iprop((((rcvPay m ρ c r ∗ semVal (rcvCell c r) 0) ∗ (records m ρ K ∗ owesE c 0)) -∗ WP c k Q) -∗ WP c (.op (eRecv c r) fun _ => k) Q) :=
  wait_step m ρ K c Q true r (rcvPay m ρ c r) _ (congrArg SemLoc.dma (recvS_eq c r)) (expect_rcv m ρ c r) (rest_rcv m ρ c r)
    (slotFromM c r) (rowsFromM c r) (N_rowsFromM c r) k
/-- The wait for the slot sent at distance `r + 1` to have left. -/
theorem sent_step (c : Dev nD) (Q : PUnit → sProp 𝕄) (r : Fin 31) (l : List (Fin 31)) (k : Prog (Eff F) PUnit) :
    iprop((cred (tallyAt (sndCell c r) () N) ∗ atPos ER (sndCell c r) 0 ∅ 0) ∗ (records m ρ K ∗ owesE c 0))
      ⊢ iprop((((sndPay m ρ c r ∗ semVal (sndCell c r) 0) ∗ (records m ρ K ∗ owesE c 0)) -∗ WP c k Q) -∗ WP c (.op (eSent c r) fun _ => k) Q) :=
  wait_step m ρ K c Q false r (sndPay m ρ c r) _ (congrArg SemLoc.dma (sendS_eq c r)) (expect_snd m ρ c r) (rest_snd m ρ c r)
    (rowsM c) (slotM c r) (N_slotM c r) k

end Cert.KernelIdeal.A2A

end
-- ==== Proof.IdealExec.lean ====
/-
# The whole body on one device

A device's result and its slots are held as its own block and one block per distance (`rows_split`, `slots_split`);
`sound_body` runs the handshake, the computation, the transfers and the two rows of waits from what the launch gives a
device to the finished result, and `body_obligation` states it for the launch.
-/
module

public import proofs.«01_k».proof.Proof.IdealBody
public import Idealize.ShloMosaic.Lib.Ring

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A whole buffer as a block per device -/

omit [FloatOps F] in
/-- Over all devices: the device itself and the one at each distance after, -/
theorem bigSep_peer (c : Dev nD) (Φ : Dev nD → sProp 𝕄) :
    bigSep Finset.univ Φ = iprop(Φ c ∗ bigSep Finset.univ fun r : Fin 31 => Φ (peer c r)) := by
  rw [bigSep_univ_at Φ c, erase_eq_peer, bigSep_map]; rfl
omit [FloatOps F] in
/-- or at each distance before. -/
theorem bigSep_from (c : Dev nD) (Φ : Dev nD → sProp 𝕄) :
    bigSep Finset.univ Φ = iprop(Φ c ∗ bigSep Finset.univ fun r : Fin 31 => Φ (from' c r)) := by
  rw [bigSep_univ_at Φ c, erase_eq_from, bigSep_map]; rfl

/-- Device `c`'s whole result staging, and its whole slots buffer. -/
def outPts (c : Dev nD) (f : S4096x64.Idx → Elt F .bf16) : sProp 𝕄 := ((c : Thread nD τ).loc cc0_stg2_0) ↦{fullShare} f
def bufPts (c : Dev nD) (f : S32x128x64.Idx → Elt F .bf16) : sProp 𝕄 := ((c : Thread nD τ).loc cc0_scratch0) ↦{fullShare} f

omit [FloatOps F] in
theorem out_blocks (c : Dev nD) (f : S4096x64.Idx → Elt F .bf16) : outPts c f = bigSep Finset.univ fun i => rowsPts c i f := by
  unfold outPts rowsPts
  exact Ring.pointsTo_blocks (ℓ := (c : Thread nD τ).loc cc0_stg2_0) rowsSet rows_disjoint rows_cover f
omit [FloatOps F] in
theorem buf_blocks (c : Dev nD) (f : S32x128x64.Idx → Elt F .bf16) : bufPts c f = bigSep Finset.univ fun j => slotPts c j f := by
  unfold bufPts slotPts
  exact Ring.pointsTo_blocks (ℓ := (c : Thread nD τ).loc cc0_scratch0) slotSet slot_disjoint slot_cover f

omit [FloatOps F] in
theorem rows_split (c : Dev nD) (f : S4096x64.Idx → Elt F .bf16) :
    outPts c f = iprop(rowsPts c c f ∗ bigSep Finset.univ fun r : Fin 31 => rowsPts c (peer c r) f) := by
  rw [out_blocks, bigSep_peer c]
omit [FloatOps F] in
theorem rows_join (c : Dev nD) (f : S4096x64.Idx → Elt F .bf16) :
    outPts c f = iprop(rowsPts c c f ∗ bigSep Finset.univ fun r : Fin 31 => rowsPts c (from' c r) f) := by
  rw [out_blocks, bigSep_from c]
omit [FloatOps F] in
theorem slots_split (c : Dev nD) (f : S32x128x64.Idx → Elt F .bf16) :
    bufPts c f = iprop(slotPts c c f ∗ bigSep Finset.univ fun r : Fin 31 => slotPts c (peer c r) f) := by
  rw [buf_blocks, bigSep_peer c]

omit [FloatOps F] in
/-- What the barrier wait hands over, counted by distances after: the rows of every peer this device's blocks land on. -/
theorem bar_rows (c : Dev nD) :
    (bigSep Finset.univ fun d : Fin 31 => (barPay c d : sProp 𝕄)) = bigSep Finset.univ fun r : Fin 31 => iprop(∃ f, rowsPts (peer c r) c f) := by
  rw [bigSep_univ_equiv Fin.revPerm]
  refine bigSep_congr fun r _ => ?_
  unfold barPay
  rw [show (Fin.revPerm r : Fin 31) = r.rev from rfl, from_rev]

omit [FloatOps F] in
/-- The resources of a list's steps, from those of all distances. -/
theorem sep_two (A B : Fin 31 → sProp 𝕄) : iprop(bigSep Finset.univ A ∗ bigSep Finset.univ B) ⊢ sepL (fun r => iprop(A r ∗ B r)) dist := by
  rw [sepL_dist, bigSep_sep']
omit [FloatOps F] in
theorem sep_four (A B C D : Fin 31 → sProp 𝕄) :
    iprop(bigSep Finset.univ A ∗ bigSep Finset.univ B ∗ bigSep Finset.univ C ∗ bigSep Finset.univ D)
      ⊢ sepL (fun r => iprop(A r ∗ B r ∗ C r ∗ D r)) dist := by
  rw [sepL_dist, bigSep_sep', bigSep_sep', bigSep_sep']
omit [FloatOps F] in
theorem unsep_two (A B : Fin 31 → sProp 𝕄) : sepL (fun r => iprop(A r ∗ B r)) dist ⊢ iprop(bigSep Finset.univ A ∗ bigSep Finset.univ B) := by
  rw [sepL_dist, bigSep_sep']

omit [FloatOps F] in
/-- Blocks at named contents are blocks at some contents. -/
theorem rows_some (c : Dev nD) (g : S4096x64.Idx → Elt F .bf16) :
    (bigSep Finset.univ fun r : Fin 31 => (rowsPts c (peer c r) g : sProp 𝕄)) ⊢ bigSep Finset.univ fun r : Fin 31 => iprop(∃ f, rowsPts c (peer c r) f) :=
  bigSep_mono fun r _ => exists_intro (Φ := fun f => rowsPts c (peer c r) f) g

variable (m : (ℓ : Loc nD τ sig) → Buf (Elt F) ℓ) (ρ : Dev nD → PrngReg)
variable (K : Dev nD × Key → ℕ)

/-! ## What the launch gives a device, and what it leaves -/

/-- A device's positions on its cells. -/
def places (c : Dev nD) : sProp 𝕄 :=
  iprop(atPos ER (barCell c) 0 ∅ 0 ∗ (bigSep Finset.univ fun r : Fin 31 => atPos ER (sndCell c r) 0 ∅ 0)
    ∗ bigSep Finset.univ fun r : Fin 31 => atPos ER (rcvCell c r) 0 ∅ 0)
/-- The tokens of the duties a device pays: on every peer's barrier, on its receive cell at every peer, on its own send cells. -/
def payToks (c : Dev nD) : sProp 𝕄 :=
  iprop((bigSep Finset.univ fun r : Fin 31 => dutyTok ER (barCell (peer c r)) 0 r)
    ∗ (bigSep Finset.univ fun r : Fin 31 => dutyTok ER (rcvCell (peer c r) r) 0 r)
    ∗ bigSep Finset.univ fun r : Fin 31 => dutyTok ER (sndCell c r) 0 r)
def ghost (c : Dev nD) : sProp 𝕄 := iprop(records m ρ K ∗ places c ∗ payToks c)

/-- The two semaphores of a device's own slot, which no transfer uses. -/
def selfSems (c : Dev nD) : sProp 𝕄 :=
  iprop(semVal ((c : Thread nD τ), .dma (sndSem c)) 0 ∗ semVal ((c : Thread nD τ), .dma (rcvSem c)) 0)

/-- The credits a device starts with: its barrier's 31 units, and a block's credit on each receive cell. -/
def credits (c : Dev nD) : sProp 𝕄 :=
  iprop(cred (tallyAt (barCell c) () 31) ∗ bigSep Finset.univ fun r : Fin 31 => cred (tallyAt (rcvCell c r) () N))

def start (c : Dev nD) : sProp 𝕄 := iprop((∃ K, ghost m ρ K c) ∗ credits c ∗ levAts L lv)

/-- Before the body and after it. -/
def Φ₀ (c : Dev nD) : sProp 𝕄 := iprop(start m ρ c ∗ selfSems c ∗ ∃ f, bufPts c f)
def Φ₁ (c : Dev nD) : sProp 𝕄 :=
  iprop(bufPts c (slots m ρ c) ∗ selfSems c ∗ (bigSep Finset.univ fun r : Fin 31 => semVal (sndCell c r) 0)
    ∗ (bigSep Finset.univ fun r : Fin 31 => semVal (rcvCell c r) 0) ∗ semVal (barCell c) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The one region's data: the arrays as found, each window's staging after the body, what the body starts from and
    leaves, and what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => result m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The pieces between the lists -/

/-- The body first reads which device it runs on. -/
theorem wp_read (c : Dev nD) (k : Dev nD → Prog (Eff F) PUnit) (Q : PUnit → sProp 𝕄) : WP c (k c) Q ⊢ WP c (.op .deviceId k) Q :=
  by
  unfold WP; rw [wp_deviceId]

/-- The barrier wait: every peer has entered, and its rows for this device's block come with it. -/
theorem bar_wait (c : Dev nD) (Q : PUnit → sProp 𝕄) (k : Prog (Eff F) PUnit) :
    iprop(records m ρ K ∗ levAts L lv ∗ cred (tallyAt (barCell c) () 31) ∗ atPos ER (barCell c) 0 ∅ 0 ∗ owesE c (O₁ c))
      ⊢ iprop((((bigSep Finset.univ fun r : Fin 31 => iprop(∃ f, rowsPts (peer c r) c f)) ∗ semVal (barCell c) 0 ∗ owesE c (O₁ c)) -∗ WP c k Q)
          -∗ WP c (.op (.semWait barS (31#32 : BitVec 32).toInt) fun _ => k) Q) := by
  rw [show (31#32 : BitVec 32).toInt = ((31 : ℕ) : ℤ) from by decide]
  iintro ⟨#HR, #Hlev, Hc, Hat, HO⟩ Hk
  unfold owesE
  icases HO with ⟨%W, HO⟩
  iapply (Rounds.wp_wait_rest_token 𝒱₀ ER (exRd m ρ) (c : Thread nD τ) none (κ := K (c, none))
      (wpE_semWait_eq 𝒱₀ (c : Thread nD τ) none Set.univ) (Set.mem_univ _) () (O := O₁ c) (W := W) (R := 0) (m := 0) (T := ∅)
      (by rw [Nat.zero_add, expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq ((rest_bar m ρ c).trans (bar_rows c))) $$ Hpay
  imod (Rounds.cell_close ER (exRd m ρ) (Set.mem_univ (K (c, none))) (fun h => h) (R := 0 + 1) (duties_later m ρ (barCell c))) $$ [Hat] with Hz
  · isplitr; · iapply (inv_at m ρ K (c, none)); iexact HR
    iexact Hat
  iapply Hk
  isplitl [Hp]; · iexact Hp
  isplitl [Hz]; · iexact Hz
  iexists _; iexact HO

/-- The computation: the slots' buffer holds the device's product, and its own rows its own slot. -/
theorem wp_compute (c : Dev nD) (Q : PUnit → sProp 𝕄) (k : Prog (Eff F) PUnit) (f : S32x128x64.Idx → Elt F .bf16) (g : S4096x64.Idx → Elt F .bf16) :
    iprop((((c : Thread nD τ).loc cc0_stg0_0) ↦{fullShare} xstg m ρ c) ∗ (((c : Thread nD τ).loc cc0_stg1_0) ↦{fullShare} wstg m ρ c)
        ∗ bufPts c f ∗ rowsPts c c g)
      ⊢ iprop((((((c : Thread nD τ).loc cc0_stg0_0) ↦{fullShare} xstg m ρ c) ∗ (((c : Thread nD τ).loc cc0_stg1_0) ↦{fullShare} wstg m ρ c)
          ∗ bufPts c (slots m ρ c) ∗ rowsPts c c (result m ρ c)) -∗ WP c k Q) -∗ WP c (compute c k) Q) := by
  unfold compute bufPts rowsPts
  iintro ⟨Hx, Hw, Hs, Ho⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [read_x, read_w]
  iapply (wp_load 𝒱₀ (c : Thread nD τ) none Set.univ (m := sM) (Finset.subset_univ _)) $$ Hs; iintro Hs
  iapply (wp_store 𝒱₀ (c : Thread nD τ) none Set.univ (m := sM) (r := rS) (Mk := Finset.univ) (Finset.subset_univ _)) $$ Hs; iintro Hs
  rw [write_s]
  iapply (wp_load 𝒱₀ (c : Thread nD τ) none Set.univ (m := sM) (Finset.subset_univ _)) $$ Hs; iintro Hs
  have hset : (oM.access (rRows c) : View sig .tc _ _ _).set ⊆ rowsSet c := (access_rows_set c).subset
  iapply (wp_load_rect 𝒱₀ (c : Thread nD τ) none Set.univ (m := oM) (r := rRows c) hset) $$ Ho; iintro Ho
  iapply (wp_store 𝒱₀ (c : Thread nD τ) none Set.univ (m := oM) (r := rRows c) (Mk := Finset.univ) hset) $$ Ho; iintro Ho
  iapply Hk
  isplitl [Hx]; · iexact Hx
  isplitl [Hw]; · iexact Hw
  isplitl [Hs]; · iexact Hs
  ihave Ho' := (Entails.of_eq (pointsTo_congr (own_eq (slots m ρ) c g))) $$ Ho
  iexact Ho'

/-! ## The body -/

def bodyPre (c : Dev nD) : sProp 𝕄 :=
  iprop((ghost m ρ K c ∗ credits c ∗ levAts L lv ∗ selfSems c ∗ ∃ f, bufPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (result m ρ c))

set_option maxHeartbeats 800000 in
/-- The steps of a device, from what the launch gives it to the finished result. -/
theorem sound_steps (c : Dev nD) (Kt : PUnit → sProp 𝕄) :
    iprop(bodyPre m ρ K c ∗ (bodyPost m ρ c -∗ Kt ⟨⟩)) ⊢ WP c (body (F := F) c) Kt := by
  unfold body bodyPre ghost places payToks credits
  iintro ⟨⟨⟨⟨#HR, ⟨HatB, HatS, HatV⟩, HtB, HtV, HtS⟩, ⟨HcB, HcV⟩, #Hlev, Hself, ⟨%f0, Hbuf⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_x t₀)]; rfl
  have hw : g1 = wstg m ρ c := by rw [hg1]; unfold Dat.before; rw [if_pos (fetch_w t₀)]; rfl
  subst hx hw
  unfold Dat.owesAt Pipeline.owesWithin
  icases Ho with ⟨%W, %hW, HO⟩
  rw [show (dats m ρ 0 c).owed t₀.castSucc = owL (O₁ c) (sigT c) dist from rfl]
  -- the result, as its own rows and one block for every peer
  ihave Hout' := (Entails.of_eq (rows_split c g2)) $$ [Hout]
  · unfold outPts; iexact Hout
  icases Hout' with ⟨Hown, Hblocks⟩
  -- the entry signals
  ihave Hsig := (sep_two (fun r => dutyTok ER (barCell (peer c r)) 0 r) (fun r => iprop(∃ f, rowsPts c (peer c r) f))) $$ [HtB Hblocks]
  · isplitl [HtB]; · iexact HtB
    iapply (rows_some c g2); iexact Hblocks
  iapply (wp_steps c (eSig c) _ _ (fun l => iprop(records m ρ K ∗ owesE c (owL (O₁ c) (sigT c) l))) Kt (sig_step m ρ K c Kt) dist _) $$ [Hsig HO]
  · isplitl [Hsig]; · iexact Hsig
    isplitr; · iexact HR
    unfold owesE; iexists W; iexact HO
  iintro ⟨-, -, HO⟩
  -- the barrier wait
  iapply (bar_wait m ρ K c Kt _) $$ [HcB HatB HO]
  · isplitr; · iexact HR
    isplitr; · iexact Hlev
    isplitl [HcB]; · iexact HcB
    isplitl [HatB]; · iexact HatB
    iexact HO
  iintro ⟨Hland, HzB, HO⟩
  -- the computation
  iapply (wp_compute m ρ c Kt _ f0 g2) $$ [Hx Hw Hbuf Hown]
  · isplitl [Hx]; · iexact Hx
    isplitl [Hw]; · iexact Hw
    isplitl [Hbuf]; · iexact Hbuf
    iexact Hown
  iintro ⟨Hx, Hw, Hbuf, Hown⟩
  ihave Hbuf' := (Entails.of_eq (slots_split c (slots m ρ c))) $$ Hbuf
  icases Hbuf' with ⟨Hslot, Hslots⟩
  -- the transfers
  ihave Hsnd := (sep_four (fun r => dutyTok ER (rcvCell (peer c r) r) 0 r) (fun r => dutyTok ER (sndCell c r) 0 r)
    (fun r => slotPts c (peer c r) (slots m ρ c)) (fun r => iprop(∃ f, rowsPts (peer c r) c f))) $$ [HtV HtS Hslots Hland]
  · isplitl [HtV]; · iexact HtV
    isplitl [HtS]; · iexact HtS
    isplitl [Hslots]; · iexact Hslots
    iexact Hland
  iapply (wp_steps c (eSend c) _ _ (fun l => iprop(records m ρ K ∗ owesE c (owL 0 (sendT c) l))) Kt (send_step m ρ K c Kt) dist _) $$ [Hsnd HO]
  · isplitl [Hsnd]; · iexact Hsnd
    isplitr; · iexact HR
    iexact HO
  iintro ⟨HcS, -, HO⟩
  -- the waits for the peers' blocks
  ihave Hrcv := (sep_two (fun r => cred (tallyAt (rcvCell c r) () N)) (fun r => atPos ER (rcvCell c r) 0 ∅ 0)) $$ [HcV HatV]
  · isplitl [HcV] <;> iassumption
  iapply (wp_steps c (eRecv c) _ _ (fun _ => iprop(records m ρ K ∗ owesE c 0)) Kt (recv_step m ρ K c Kt) dist _) $$ [Hrcv HO]
  · isplitl [Hrcv]; · iexact Hrcv
    isplitr; · iexact HR
    iexact HO
  iintro ⟨Hgot, -, HO⟩
  ihave Hgot' := (unsep_two (rcvPay m ρ c) (fun r => semVal (rcvCell c r) 0)) $$ Hgot
  icases Hgot' with ⟨Hrows, HzV⟩
  -- the waits for the own blocks to have left
  ihave HcS' := (Entails.of_eq (sepL_dist (fun r => (cred (tallyAt (sndCell c r) () N) : sProp 𝕄)))) $$ HcS
  ihave Hst := (sep_two (fun r => cred (tallyAt (sndCell c r) () N)) (fun r => atPos ER (sndCell c r) 0 ∅ 0)) $$ [HcS' HatS]
  · isplitl [HcS'] <;> iassumption
  iapply (wp_steps c (eSent c) _ _ (fun _ => iprop(records m ρ K ∗ owesE c 0)) Kt (sent_step m ρ K c Kt) dist _) $$ [Hst HO]
  · isplitl [Hst]; · iexact Hst
    isplitr; · iexact HR
    iexact HO
  iintro ⟨Hleft, -, HO⟩
  ihave Hleft' := (unsep_two (sndPay m ρ c) (fun r => semVal (sndCell c r) 0)) $$ Hleft
  icases Hleft' with ⟨Hslots, HzS⟩
  unfold WP; rw [wp_ret]; imodintro
  iapply Hk
  unfold bodyPost Φ₁ Dat.owesAt Pipeline.owesWithin owesE
  icases HO with ⟨%W', HO⟩
  rw [show (dats m ρ 0 c).owed t₀.succ = 0 from rfl]
  isplitl [Hslot Hslots Hself HzS HzV HzB]
  · isplitl [Hslot Hslots]
    · rw [slots_split]; isplitl [Hslot]; · iexact Hslot
      iexact Hslots
    isplitl [Hself]; · iexact Hself
    isplitl [HzS]; · iexact HzS
    isplitl [HzV] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists (result m ρ c); isplitr; · (ipureintro; rfl)
  ihave Hall := (Entails.of_eq (rows_join c (result m ρ c)).symm) $$ [Hown Hrows]
  · isplitl [Hown]; · iexact Hown
    iexact Hrows
  unfold outPts; iexact Hall

/-- The printed body, which reads its device first. -/
theorem sound_body (c : Dev nD) (Kt : PUnit → sProp 𝕄) :
    iprop(bodyPre m ρ K c ∗ (bodyPost m ρ c -∗ Kt ⟨⟩))
      ⊢ WP c (cc0_body (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  rw [body_eq]
  exact (sound_steps m ρ K c Kt).trans (wp_read c (fun d => body (F := F) d) Kt)

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 65536 in
/-- The body's obligation to the launch. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ WP c
    (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hcr, Hlev⟩, Hself, Hbuf⟩, Ho, Hx, Hw, Hout⟩
  iapply (sound_body m ρ K c fun _ => bodyPost m ρ c)
  unfold bodyPre
  isplitr []
  · isplitl [Hg Hcr Hlev Hself Hbuf]
    · isplitl [Hg]; · iexact Hg
      isplitl [Hcr]; · iexact Hcr
      isplitl [Hlev]; · iexact Hlev
      isplitl [Hself]; · iexact Hself
      iexact Hbuf
    isplitl [Ho]; · iexact Ho
    isplitl [Hx]; · iexact Hx
    isplitl [Hw] <;> iassumption
  · iintro H; iexact H

end Cert.KernelIdeal.A2A

end
-- ==== Proof.IdealLaunch.lean ====
/-
# The launch of the exchange

All cells of all devices are allocated at once from the counters at zero, the duty tokens are dealt to the devices that
pay them (`toks_around`), the launch's credits are what the devices together owe each cell (`creds`), and `run_main` is
the run of the whole program. `final_out` reads the result array.
-/
module

public import proofs.«01_k».proof.Proof.IdealExec
public import Idealize.ShloMosaic.Lib.Pipeline.ValueKit.Geometry
public import Idealize.ShloMosaic.Lib.Pipeline.CollectiveSegs

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own semaphores: its send semaphores (`false`) and its receive semaphores (`true`). -/
abbrev osem : Bool × Dev nD → SemLoc sig
  | (false, j) => .dma (sndSem j)
  | (true, i) => .dma (rcvSem i)

set_option maxRecDepth 65536 in
theorem ownSemFacts : Pipeline.OwnSemFacts cfg0.spec osem := by decide +kernel

theorem share_eq (c : Dev nD) (w : Fin cfg0.W) : (dats m ρ 0 c).share w = fullShare := by unfold Dat.share; split <;> rfl

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- A device's own semaphores: those of its own slot, its send cells and its receive cells. -/
theorem ownSems0_eq (c : Dev nD) : (Pipeline.ownSems0 (Ix := Unit) (Name := ℕ) (U := UU) (Lvl := ℕ) (Val := Elt F) (τ := τ) osem c : sProp 𝕄)
    = iprop((semVal ((c : Thread nD τ), .dma (sndSem c)) 0 ∗ bigSep Finset.univ fun r : Fin 31 => semVal (sndCell c r) 0)
        ∗ (semVal ((c : Thread nD τ), .dma (rcvSem c)) 0 ∗ bigSep Finset.univ fun r : Fin 31 => semVal (rcvCell c r) 0)) := by
  unfold Pipeline.ownSems0
  rw [bigSep_univ_prod, bigSep_bool, bigSep_peer c, bigSep_from c]
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide +kernel)]; rfl

/-! ## Cells and tokens -/

omit [FloatOps F] in
/-- Over a device's cells: its barrier, its send cells, its receive cells. -/
theorem bigSep_key (Φ : Key → sProp 𝕄) : bigSep Finset.univ Φ
    = iprop(Φ none ∗ (bigSep Finset.univ fun r : Fin 31 => Φ (some (false, r))) ∗ bigSep Finset.univ fun r : Fin 31 => Φ (some (true, r))) := by
  rw [bigSep_univ_at Φ none,
    show (Finset.univ.erase none : Finset Key) = Finset.univ.map Function.Embedding.some from by ext k; cases k <;> simp,
    bigSep_map, bigSep_univ_prod, bigSep_bool]
  rfl

theorem csem_injective (c : Dev nD) : Function.Injective (csem c) := by
  rintro (_ | ⟨_ | _, r⟩) (_ | ⟨_ | _, s⟩) h
  · rfl
  · exact absurd h.symm (dma_ne_bar _)
  · exact absurd h.symm (dma_ne_bar _)
  · exact absurd h (dma_ne_bar _)
  · rw [peer_inj c (sndSem_inj (dma_inj h))]
  · exact absurd (dma_inj h) (sndSem_ne_rcvSem _ _)
  · exact absurd h (dma_ne_bar _)
  · exact absurd (dma_inj h).symm (sndSem_ne_rcvSem _ _)
  · rw [from_inj c (rcvSem_inj (dma_inj h))]
theorem kcell_injective : Function.Injective (kcell : Dev nD × Key → GSem nD τ sig) := by
  rintro ⟨c, k⟩ ⟨c', k'⟩ h
  have h1 : c = c' := congrArg (fun g : GSem nD τ sig => g.1.1) h
  subst h1
  have hk : k = k' := csem_injective c (congrArg Prod.snd h)
  rw [hk]
def ringCells : Finset (GSem nD τ sig) := Finset.univ.map ⟨kcell, kcell_injective⟩

/-- A device's own cells' tokens: one per distance for each kind of cell. -/
abbrev tkey : Option Bool × Fin 31 → Key
  | (none, _) => none
  | (some b, r) => some (b, r)
abbrev tokOf (x : Dev nD × Option Bool × Fin 31) : GSem nD τ sig × ℕ × Fin 31 := (kcell (x.1, tkey x.2), 0, x.2.2)
theorem tokOf_injective : Function.Injective tokOf := by
  rintro ⟨c, k, r⟩ ⟨c', k', r'⟩ h
  have hr : r = r' := congrArg (fun x : GSem nD τ sig × ℕ × Fin 31 => x.2.2) h
  have hk := kcell_injective (congrArg Prod.fst h)
  have h1 : c = c' := congrArg Prod.fst hk
  have h2 : tkey (k, r) = tkey (k', r') := congrArg Prod.snd hk
  subst hr h1
  have h3 : k = k' := by
    cases k <;> cases k' <;> first | rfl | cases h2 | skip
    rfl
  rw [h3]
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun r : Fin 31 => dutyTok ER (barCell c) 0 r) ∗ (bigSep Finset.univ fun r : Fin 31 => dutyTok ER (sndCell c r) 0 r)
    ∗ bigSep Finset.univ fun r : Fin 31 => dutyTok ER (rcvCell c r) 0 r)

/-- What the launch element deals device `c`, and what the global step makes of it. -/
def G (c : Dev nD) : sProp 𝕄 :=
  iprop((bigSep Finset.univ fun k : Key => roundState ER (exRd m ρ) (kcell (c, k)) 0)
    ∗ (bigSep Finset.univ fun k : Key => iprop(atPos ER (kcell (c, k)) 0 ∅ 0 ∗ reached ER (kcell (c, k)) 0)) ∗ toks c)
def G' (c : Dev nD) : sProp 𝕄 := iprop((∃ K, ghost m ρ K c) ∗ selfSems c)

omit [FloatOps F] in
theorem toks_eq : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  rw [bigSep_univ_prod, bigSep_univ_eq_bigSepL [none, some false, some true] (by decide) (by decide)]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  iintro HX
  imod (Rounds.fund ER (exRd m ρ) ringCells ringToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-- The counters of a device's cells, and the two its own slot leaves unused. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Key => (semVal (kcell (c, k)) 0 : sProp 𝕄)) ∗ selfSems c) := by
  rw [ownSems0_eq, unscopedSems0_eq, bigSep_key]
  unfold selfSems
  iintro ⟨⟨⟨Hs, HS⟩, Hv, HV⟩, HB⟩
  isplitl [HB HS HV]
  · isplitl [HB]; · iexact HB
    isplitl [HS] <;> iassumption
  isplitl [Hs] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c ∗ selfSems c) := by
  unfold G
  iintro ⟨Hos, Hus, Hst, Hat, Htok⟩
  ihave Hv' := (sems0_eq (F := F) c) $$ [Hos Hus]
  · isplitl [Hos] <;> iassumption
  icases Hv' with ⟨Hv, Hself⟩
  imod (show iprop((bigSep Finset.univ fun k : Key => semVal (kcell (c, k)) 0) ∗ bigSep Finset.univ fun k : Key => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- A family over devices and distances, each distance's members moved round by it. -/
theorem around (Φ : Dev nD → Fin 31 → sProp 𝕄) :
    (bigSep Finset.univ fun c => bigSep Finset.univ fun r => Φ c r) = bigSep Finset.univ fun c => bigSep Finset.univ fun r => Φ (peer c r) r := by
  rw [bigSep_univ_comm, bigSep_univ_comm (fun c r => Φ (peer c r) r)]
  exact bigSep_congr fun r _ => bigSep_univ_equiv (rot r) (fun c => Φ c r)

omit [FloatOps F] in
/-- The barrier and receive tokens go to the devices that pay them; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', around (fun c r => dutyTok ER (barCell c) 0 r), around (fun c r => dutyTok ER (rcvCell c r) 0 r)]
  iintro ⟨H1, H2, H3⟩
  isplitl [H1]; · iexact H1
  isplitl [H3] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Key → ℕ) (c : Dev nD) :
    iprop(records m ρ K ∗ ((bigSep Finset.univ fun k : Key => atPos ER (kcell (c, k)) 0 ∅ 0) ∗ payToks c ∗ selfSems c)) ⊢ G' m ρ c := by
  unfold G' ghost places
  rw [bigSep_key]
  iintro ⟨HR, ⟨HB, HS, HV⟩, Ht, Hs⟩
  isplitr [Hs]
  · iexists K
    isplitl [HR]; · iexact HR
    isplitl [HB HS HV]
    · isplitl [HB]; · iexact HB
      isplitl [HS] <;> iassumption
    iexact Ht
  iexact Hs

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c ∗ selfSems c) : sProp 𝕄)
      ⊢ bigSep Finset.univ (G' m ρ) := by
  rw [bigSep_sep', bigSep_sep', bigSep_sep', ← bigSep_univ_prod (fun ck : Dev nD × Key => iprop(∃ κ : ℕ, cellInv ER (exRd m ρ) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok, Hself⟩
  ihave HK := (BI.bigSep_exists_pi Finset.univ (fun (ck : Dev nD × Key) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep', bigSep_sep']
    isplitl [Hat]; · iexact Hat
    isplitl [Htk] <;> iassumption

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owL_apply (base : CellTallies nD τ sig Unit) (f : Fin 31 → CellTallies nD τ sig Unit) (g : GSem nD τ sig) :
    ∀ l : List (Fin 31), l.Nodup → owL base f l g () = base g () + ∑ r ∈ l.toFinset, f r g ()
  | [], _ => by simp [owL]
  | r :: l, h => by
    rw [List.toFinset_cons, Finset.sum_insert (by rw [List.mem_toFinset]; exact (List.nodup_cons.mp h).1)]
    unfold owL
    rw [Pi.add_apply, Finsupp.add_apply, owL_apply base f g l (List.nodup_cons.mp h).2]
    omega
theorem owL_dist (base : CellTallies nD τ sig Unit) (f : Fin 31 → CellTallies nD τ sig Unit) (g : GSem nD τ sig) :
    owL base f dist g () = base g () + ∑ r, f r g () := by
  rw [owL_apply base f g dist dist_nodup]
  congr 1

/-- What device `d` owes a cell. -/
theorem owed (d : Dev nD) (g : GSem nD τ sig) : O₀ d g () = (∑ r, sendT d r g ()) + ∑ r, sigT d r g () := by
  unfold O₀ O₁
  rw [owL_dist, owL_dist]
  rw [Pi.zero_apply, Finsupp.zero_apply, Nat.zero_add]

theorem sig_bar (d c : Dev nD) (r : Fin 31) : sigT d r (barCell c) () = if d = from' c r then 1 else 0 := by
  unfold sigT; rw [tallyAt_apply]
  by_cases h : d = from' c r
  · subst h; rw [peer_from, if_pos ⟨rfl, rfl⟩, if_pos rfl]
  · rw [if_neg (fun h' => h ?_), if_neg h]
    have h1 : c = peer d r := congrArg (fun g : GSem nD τ sig => g.1.1) h'.1
    rw [h1, from_peer]
theorem send_bar (d c : Dev nD) (r : Fin 31) : sendT d r (barCell c) () = 0 := by
  unfold sendT; rw [tallyAt_apply, if_neg (fun h' => dma_ne_bar _ (congrArg Prod.snd h'.1).symm)]
theorem sig_rcv (d c : Dev nD) (r s : Fin 31) : sigT d s (rcvCell c r) () = 0 := by
  unfold sigT; rw [tallyAt_apply, if_neg (fun h' => dma_ne_bar _ (congrArg Prod.snd h'.1))]
theorem send_rcv (d c : Dev nD) (r s : Fin 31) : sendT d s (rcvCell c r) () = if s = r then (if d = from' c r then N else 0) else 0 := by
  unfold sendT; rw [tallyAt_apply]
  by_cases hs : s = r
  · subst hs
    rw [if_pos rfl]
    by_cases h : d = from' c s
    · subst h; rw [peer_from, if_pos ⟨rfl, rfl⟩, if_pos rfl]
    · rw [if_neg (fun h' => h ?_), if_neg h]
      have h1 : c = peer d s := congrArg (fun g : GSem nD τ sig => g.1.1) h'.1
      rw [h1, from_peer]
  · rw [if_neg (fun h' => hs ?_), if_neg hs]
    have h1 : c = peer d s := congrArg (fun g : GSem nD τ sig => g.1.1) h'.1
    have h2 := rcvSem_inj (dma_inj (congrArg Prod.snd h'.1))
    rw [← h1] at h2
    exact (from_inj c h2).symm

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  simp only [owed, send_bar, sig_bar, Finset.sum_const_zero, Nat.zero_add]
  rw [Finset.sum_comm, Finset.sum_congr rfl fun r _ => Finset.sum_ite_eq' Finset.univ (from' c r) fun _ => 1]
  simp only [Finset.mem_univ, if_true, Finset.sum_const, Finset.card_univ, Fintype.card_fin, smul_eq_mul, Nat.mul_one]
theorem launch_rcv (c : Dev nD) (r : Fin 31) :
    tallyOn (rcvCell c r) (launchCredit (Pipeline.owing O₀) 0 (rcvCell c r)) = (tallyAt (rcvCell c r) () N : CellTallies nD τ sig Unit) := by
  unfold tallyAt; refine congrArg _ (Finsupp.ext fun u => ?_); cases u
  rw [Pipeline.launchCredit_owing, Finsupp.single_eq_same]
  simp only [owed, send_rcv, sig_rcv, Finset.sum_const_zero, Nat.add_zero]
  rw [Finset.sum_congr rfl fun d _ => Finset.sum_ite_eq' Finset.univ r fun _ => if d = from' c r then N else 0]
  simp only [Finset.mem_univ, if_true]
  rw [Finset.sum_ite_eq' Finset.univ (from' c r) fun _ => N, if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  have hi : Function.Injective fun r : Fin 31 => (SemLoc.dma (rcvSem (from' c r)) : SemLoc sig) := fun r s h => from_inj c (rcvSem_inj (dma_inj h))
  refine (bigSep_subset (t := Finset.univ.map ⟨_, hi⟩) fun x hx => ?_).trans ?_
  · obtain ⟨r, -, rfl⟩ := Finset.mem_map.mp hx
    exact Finset.mem_erase.mpr ⟨dma_ne_bar _, Finset.mem_univ _⟩
  · rw [bigSep_map]
    exact Entails.of_eq (bigSep_congr fun r _ => congrArg cred (launch_rcv c r))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop((start m ρ c ∗ selfSems c) ∗ emp) := by
  iintro ⟨-, Hlev, Hcr, -, HG⟩
  ihave Hc := (creds (F := F) c) $$ Hcr
  unfold G'
  icases HG with ⟨HG, Hs⟩
  imodintro
  unfold start
  isplitl
  · isplitr [Hs]
    · isplitl [HG]; · iexact HG
      isplitl [Hc] <;> iassumption
    iexact Hs
  · iempintro

theorem phi0_intro (c : Dev nD) :
    iprop((start m ρ c ∗ selfSems c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufPts
  iintro ⟨⟨Hs, Hself⟩, -, Hr⟩
  isplitl [Hs]; · iexact Hs
  isplitl [Hself] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ bufPts selfSems
  iintro ⟨Hr, ⟨Hs, Hv⟩, HzS, HzV, HzB⟩
  isplitl [HzB]; · iexact HzB
  isplitl [Hs Hv HzS HzV]
  · isplitl [Hs HzS]
    · isplitl [Hs] <;> iassumption
    isplitl [Hv] <;> iassumption
  iexists (slots m ρ c); iexact Hr

theorem stage_ne_rcv : ∀ (w : Fin cfg0.W) (s : Fin (cfg0.win w).nbuf) (i : Dev nD), (cfg0.win w).sem s ≠ rcvSem i := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_ne_rcv w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with all counters at zero, every weakly fair execution of the 32 devices' programs terminates, with
    every window's array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := fun c => iprop(start m ρ c ∗ selfSems c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays are unchanged. -/
theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _
/-- The result array is the gathered result: its one block, written back once, is the whole array. -/
theorem final_out (c : Dev nD) : finalA m ρ c (2 : Fin 3) = result m ρ c :=
  (dats (F := F) m ρ 0 c).arrAt_eq_of_after_last (2 : Fin 3) t₀ (by decide +kernel) (result m ρ c) fun j => by
    exact (cast_eq _ _).trans rfl

/-- The staged operands are the argument arrays: each window's one block is its whole array. -/
theorem xstg_eq (c : Dev nD) : xstg m ρ c = m ((c : Thread nD τ).loc main_arg0) := by
  funext j
  show m ((c : Thread nD τ).loc main_arg0) _ = m ((c : Thread nD τ).loc main_arg0) j
  refine congrArg (m ((c : Thread nD τ).loc main_arg0)) (funext fun a => Fin.ext ?_)
  match a with
  | ⟨0, _⟩ => show 0 * 128 + 1 * (j 0).val = (j 0).val; omega
  | ⟨1, _⟩ => show 0 * 4096 + 1 * (j 1).val = (j 1).val; omega
theorem wstg_eq (c : Dev nD) : wstg m ρ c = m ((c : Thread nD τ).loc main_arg1) := by
  funext j
  show m ((c : Thread nD τ).loc main_arg1) _ = m ((c : Thread nD τ).loc main_arg1) j
  refine congrArg (m ((c : Thread nD τ).loc main_arg1)) (funext fun a => Fin.ext ?_)
  match a with
  | ⟨0, _⟩ => show 0 * 4096 + 1 * (j 0).val = (j 0).val; omega
  | ⟨1, _⟩ => show 0 * 2048 + 1 * (j 1).val = (j 1).val; omega

/-! ## The program's run, read at its arrays -/

/-- Every execution ends with each device's result the gathered one, its arguments unchanged, all counters at zero. -/
theorem run : θ_run defs (onTc (τ := τ) (main (F := F))) (s₀ m ρ) (fun r =>
    (∀ c : Dev nD, r.2.mem ((c : Thread nD τ).loc main_v1) = result m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h =>
    ⟨fun c => ⟨(h.1 c (2 : Fin 3)).trans (final_out m ρ c), (h.1 c (0 : Fin 3)).trans (final_x m ρ c),
      (h.1 c (1 : Fin 3)).trans (final_w m ρ c)⟩, h.2⟩) (run_main m ρ)

end Cert.KernelIdeal.A2A

end
-- ==== Proof.IdealValue.lean ====
/-
# The gathered result is a block of columns of the reference's product

The reference multiplies the whole arrays. Row `R`, column `64 c + q` of its product is the sum over `k` of
`x[R, k] · w[k, 64 c + q]`. With `R = 128 i + r`, the left factor is row `r` of device `i`'s block of `x`, so the sum is
entry `(r, 64 c + q)` of the product device `i` computes, which device `i` keeps at `(c, r, q)` of its slots and device
`c` receives at row `R`, column `q` of its result. The narrowing to bf16 is the identity on exact values; it stands on
both sides and is carried along.
-/
module

public import proofs.«01_k».proof.Defs
public import proofs.«01_k».proof.Proof.IdealLaunch
public import proofs.«01_k».proof.Proof.Gen.ReferenceIdeal.Run
public import Idealize.ShloMosaic.Lib.MatmulPlain
public import Idealize.ShloMosaic.Lib.StackMember
public import Idealize.ShloMosaic.Lib.KernelVsHost
public import Idealize.ShloMosaic.Lib.Pipeline.Value

@[expose] public section

noncomputable section

namespace Cert.KernelIdeal.A2A

open Cert.KernelIdeal Cert.KernelIdeal.Gen

open Idealize.ShloMosaic
open Idealize.ShloMosaic.TcCoe
open Idealize.ShloMosaic.ValueIdx
open Idealize.SL Idealize.SL.Sem

/-- The reference's result from its two whole arguments: their product, narrowed. -/
def refOut (x : FVec Ideal ReferenceIdeal.S4096x4096 .bf16) (w : FVec Ideal ReferenceIdeal.S4096x2048 .bf16) :
    FVec Ideal ReferenceIdeal.S4096x2048 .bf16 :=
  truncf .bf16 (Host.dotGeneral ReferenceIdeal.dot_S4096x4096_S4096x2048_S4096x2048_1_0_0_1_n_n none x w)
    ReferenceIdeal.Facts₀.bitsLt_bf16_f32

/-- The reference's result at an index. -/
theorem refOut_apply (x : FVec Ideal ReferenceIdeal.S4096x4096 .bf16) (w : FVec Ideal ReferenceIdeal.S4096x2048 .bf16)
    (R : Fin 4096) (l : Fin 2048) :
    refOut x w (ix2 R l) = ∑ k : Fin 4096, x (ix2 R k) * w (ix2 k l) :=
  StackMember.dotGeneral_plain_apply none x w R l

/-- Entry `(j, r, q)` of a device's slots: row `r`, column `64 j + q` of the product of its rows. -/
theorem pay1_apply (x : FVec Ideal S128x4096 .bf16) (w : FVec Ideal S4096x2048 .bf16) (j : Fin 32) (r : Fin 128) (q : Fin 64)
    (l : Fin 2048) (hl : l.val = 64 * j.val + q.val) :
    k0_pay1 x w (ix3 j r q) = ∑ k : Fin 4096, x (ix2 r k) * w (ix2 k l) := by
  unfold k0_pay1
  rw [shapeCast_self, shapeCast_self, shapeCast_self, matmul_zero_eq_dotGeneral]
  refine (transpose_apply _ _ _ _ (ix3 r j q) fun b => ?_).trans ?_
  · match b with
    | ⟨0, _⟩ => rfl
    | ⟨1, _⟩ => rfl
    | ⟨2, _⟩ => rfl
  refine (shapeCast_apply _ _ _ (ix2 r l) ?_).trans ?_
  · rw [Shape.rowMajor_val_two, Shape.rowMajor_val_three]
    show r.val * 2048 + l.val = (r.val * 32 + j.val) * 64 + q.val
    omega
  exact StackMember.dotGeneral_plain_apply none x w r l

variable (m : (ℓ : Loc nD τ sig) → Buf (Elt Ideal) ℓ) (ρ : Dev nD → PrngReg)

/-- Where each device's first argument is its block of rows of `x` and its second is `w`, device `c`'s result is block
    `c` of columns of the reference's result. -/
theorem result_eq (x : FVec Ideal ReferenceIdeal.S4096x4096 .bf16) (w : FVec Ideal ReferenceIdeal.S4096x2048 .bf16)
    (hx : ∀ c : Dev nD, m ((c : Thread nD τ).loc main_arg0) = Layout.block ⟨2, ![128, 4096]⟩ ⟨2, ![4096, 4096]⟩ 0 32 c x)
    (hw : ∀ c : Dev nD, m ((c : Thread nD τ).loc main_arg1) = w) (c : Dev nD) :
    result m ρ c = Layout.block ⟨2, ![4096, 64]⟩ ⟨2, ![4096, 2048]⟩ 1 32 c (refOut x w) := by
  funext y
  obtain ⟨R, q, rfl⟩ : ∃ R q, y = ix2 R q := ⟨y 0, y 1, eq_ix2 y⟩
  have hc : c.val < 32 := c.isLt
  have hq : q.val < 64 := q.isLt
  have hR : R.val < 4096 := R.isLt
  let l : Fin 2048 := ⟨64 * c.val + q.val, by omega⟩
  let i : Dev nD := ⟨R.val / 128, by show R.val / 128 < 32; omega⟩
  let r : Fin 128 := ⟨R.val % 128, Nat.mod_lt _ (by decide)⟩
  have e1 : result m ρ c (ix2 R q) = ∑ k : Fin 4096, xstg m ρ i (ix2 r k) * wstg m ρ i (ix2 k l) :=
    pay1_apply (xstg m ρ i) (wstg m ρ i) c r q l rfl
  have e2 : Layout.block ⟨2, ![4096, 64]⟩ ⟨2, ![4096, 2048]⟩ 1 32 c (refOut x w) (by decide) (ix2 R q) = refOut x w (ix2 R l) := by
    rw [Layout.block_apply]
    refine congrArg (refOut x w) (funext fun a => Fin.ext ?_)
    match a with
    | ⟨0, _⟩ => rfl
    | ⟨1, _⟩ => show c.val * 64 + q.val = 64 * c.val + q.val; omega
  rw [e1, e2, refOut_apply, xstg_eq, wstg_eq, hx, hw]
  refine Finset.sum_congr rfl fun k _ => congrArg (· * w (ix2 k l)) ?_
  rw [Layout.block_apply]
  refine congrArg x (funext fun a => Fin.ext ?_)
  match a with
  | ⟨0, _⟩ => show R.val / 128 * 128 + R.val % 128 = R.val; omega
  | ⟨1, _⟩ => rfl

end Cert.KernelIdeal.A2A

end
-- ==== Proof.lean ====
/-
# The certificate

The five claims of the certificate, from the runs in the modules under `Proof/`. The kernel is printed twice, once as
written and once read at exact values; `Bits…` and `Ideal…` are the same argument about the two texts.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BitsLaunch
public import proofs.«01_k».proof.Proof.IdealLaunch
public import proofs.«01_k».proof.Proof.IdealValue
public import Idealize.ShloMosaic.Adequacy
public import Idealize.ShloMosaic.Init

@[expose] public section

noncomputable section

namespace Cert.Proof

open Idealize.ShloMosaic Idealize.SL.Sem

/-- The kernel as written terminates on every device without a fault, its arguments unchanged, every counter at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.A2A.run (F := Bits) m g)

/-- The same of the kernel read at exact values. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.A2A.run (F := Ideal) m g)

/-- The reference terminates, its arguments unchanged; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- At exact values each device's result is its block of columns of the reference's result. -/
theorem value : Cert.algebraic_KernelIdeal_ReferenceIdeal (hKernelIdeal := Cert.KernelIdeal.Gen.facts)
    (hReferenceIdeal := Cert.ReferenceIdeal.Gen.facts) := fun m g m' g' _ h =>
  ⟨Cert.KernelIdeal.A2A.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).1.trans (Cert.KernelIdeal.A2A.result_eq m g _ _ (fun c => (h c).1) (fun c => (h c).2) c), (hr.1 c).2⟩)
      (Cert.KernelIdeal.A2A.run (F := Ideal) m g),
    (θ_run Cert.ReferenceIdeal.defs _ _).mono (fun _ hr => hr 0) (Cert.ReferenceIdeal.Value.run (F := Ideal) m' g')⟩

/-- All the claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
